-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 2048]⟩ ⟨2, ![8192, 4096]⟩ (Layout.meshBlock [2, 2] ![[0], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 4096]⟩ ⟨2, ![4096, 4096]⟩ (Layout.meshBlock [2, 2] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 4096]⟩ ⟨2, ![8192, 4096]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x2048 : Shape := ⟨2, ![4096, 2048]⟩
abbrev S2048x4096 : Shape := ⟨2, ![2048, 4096]⟩
abbrev S4096x4096 : Shape := ⟨2, ![4096, 4096]⟩
abbrev S128x2048 : Shape := ⟨2, ![128, 2048]⟩
abbrev S128x4096 : Shape := ⟨2, ![128, 4096]⟩
abbrev S3x128x4096 : Shape := ⟨3, ![3, 128, 4096]⟩
abbrev S5x128x4096 : Shape := ⟨3, ![5, 128, 4096]⟩
abbrev S3 : Shape := ⟨1, ![3]⟩
abbrev S5 : Shape := ⟨1, ![5]⟩
abbrev S_ : Shape := ⟨0, ![]⟩
abbrev S1 : Shape := ⟨1, ![1]⟩
abbrev S1x128x4096 : Shape := ⟨3, ![1, 128, 4096]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S4096x4096, .bf16⟩
  | .local _ .vmem, ⟨0, _⟩ => ⟨S128x2048, .bf16⟩
  | .local _ .vmem, ⟨1, _⟩ => ⟨S128x2048, .bf16⟩
  | .local _ .vmem, ⟨2, _⟩ => ⟨S2048x4096, .bf16⟩
  | .local _ .vmem, ⟨3, _⟩ => ⟨S128x4096, .bf16⟩
  | .local _ .vmem, ⟨4, _⟩ => ⟨S128x4096, .bf16⟩
  | .local _ .vmem, ⟨5, _⟩ => ⟨S3x128x4096, .bf16⟩
  | .local _ .vmem, ⟨6, _⟩ => ⟨S5x128x4096, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev barrier0 : Sem sig := 0

abbrev nD : Nat := 4
abbrev τ : Topo := Topo.v7x

variable {F : FTy → Type} [FloatOps F]

abbrev grid0 : Pipeline.Grid := ⟨1, ![34], ![false]⟩

def k0_cond1 (i : grid0.Coords) : BitVec 1 :=
  let arg0 : BitVec 32 := BitVec.ofNat 32 (i 0).val
  let c0_i32 : BitVec 32 := 0#32
  let v7 : BitVec 1 := Scalar.cmpi .eq arg0 c0_i32
  let v8 : BitVec 32 := Scalar.extui v7
  let c0_i32_3 : BitVec 32 := 0#32
  let v9 : BitVec 1 := Scalar.cmpi .ne v8 c0_i32_3
  v9

def k0_dev1 (d0 : Dev nD) : Nat :=
  let c0_i32_11 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_10 : BitVec 32 := 2#32
  let v20 : BitVec 32 := Scalar.muli v2 c2_i32_10
  let v21 : BitVec 32 := Scalar.addi c0_i32_11 v20
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_12 : BitVec 32 := 1#32
  let v22 : BitVec 32 := Scalar.muli v6 c1_i32_12
  let v23 : BitVec 32 := Scalar.addi v21 v22
  v23.toNat
def k0_cond2 (i : grid0.Coords) : BitVec 1 :=
  let arg0 : BitVec 32 := BitVec.ofNat 32 (i 0).val
  let c2_i32_4 : BitVec 32 := 2#32
  let v10 : BitVec 1 := Scalar.cmpi .sge arg0 c2_i32_4
  let v11 : BitVec 32 := Scalar.extui v10
  let c0_i32_5 : BitVec 32 := 0#32
  let v12 : BitVec 1 := Scalar.cmpi .ne v11 c0_i32_5
  v12

def k0_off1 (i : grid0.Coords) : Fin 1 → Nat :=
  let arg0 : BitVec 32 := BitVec.ofNat 32 (i 0).val
  let c2_i32_9 : BitVec 32 := 2#32
  let v19 : BitVec 32 := Scalar.subi arg0 c2_i32_9
  let c3_i32_20 : BitVec 32 := 3#32
  let v40 : BitVec 32 := Scalar.remsi v19 c3_i32_20
  ![v40.toNat]
def k0_off2 (i : grid0.Coords) : Fin 3 → Nat :=
  let arg0 : BitVec 32 := BitVec.ofNat 32 (i 0).val
  let c2_i32_9 : BitVec 32 := 2#32
  let v19 : BitVec 32 := Scalar.subi arg0 c2_i32_9
  let c3_i32 : BitVec 32 := 3#32
  let c0_i32_10 : BitVec 32 := 0#32
  let v20 : BitVec 1 := Scalar.cmpi .eq c3_i32 c0_i32_10
  let c1_i32_11 : BitVec 32 := 1#32
  let v21 : BitVec 32 := Scalar.select v20 c1_i32_11 c3_i32
  let v22 : BitVec 32 := Scalar.remsi v19 v21
  let c0_i32_13 : BitVec 32 := 0#32
  let v24 : BitVec 1 := Scalar.cmpi .slt v22 c0_i32_13
  let c0_i32_14 : BitVec 32 := 0#32
  let v25 : BitVec 1 := Scalar.cmpi .slt v21 c0_i32_14
  let v26 : BitVec 1 := Scalar.xori v24 v25
  let c0_i32_12 : BitVec 32 := 0#32
  let v23 : BitVec 1 := Scalar.cmpi .ne v22 c0_i32_12
  let v27 : BitVec 1 := Scalar.andi v26 v23
  let v28 : BitVec 32 := Scalar.addi v22 v21
  let v29 : BitVec 32 := Scalar.select v27 v28 v22
  let c0_i32_28 : BitVec 32 := 0#32
  let c0_i32_29 : BitVec 32 := 0#32
  ![v29.toNat, 0, 0]
def k0_off3 (i : grid0.Coords) : Fin 3 → Nat :=
  let arg0 : BitVec 32 := BitVec.ofNat 32 (i 0).val
  let c2_i32_9 : BitVec 32 := 2#32
  let v19 : BitVec 32 := Scalar.subi arg0 c2_i32_9
  let c5_i32 : BitVec 32 := 5#32
  let c0_i32_15 : BitVec 32 := 0#32
  let v30 : BitVec 1 := Scalar.cmpi .eq c5_i32 c0_i32_15
  let c1_i32_16 : BitVec 32 := 1#32
  let v31 : BitVec 32 := Scalar.select v30 c1_i32_16 c5_i32
  let v32 : BitVec 32 := Scalar.remsi v19 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c0_i32_30 : BitVec 32 := 0#32
  let c0_i32_31 : BitVec 32 := 0#32
  ![v39.toNat, 0, 0]
def k0_off4 (i : grid0.Coords) : Fin 1 → Nat :=
  let arg0 : BitVec 32 := BitVec.ofNat 32 (i 0).val
  let c2_i32_9 : BitVec 32 := 2#32
  let v19 : BitVec 32 := Scalar.subi arg0 c2_i32_9
  let c5_i32_21 : BitVec 32 := 5#32
  let c0_i32_22 : BitVec 32 := 0#32
  let v41 : BitVec 1 := Scalar.cmpi .eq c5_i32_21 c0_i32_22
  let c1_i32_23 : BitVec 32 := 1#32
  let v42 : BitVec 32 := Scalar.select v41 c1_i32_23 c5_i32_21
  let v43 : BitVec 32 := Scalar.remsi v19 v42
  let c0_i32_25 : BitVec 32 := 0#32
  let v45 : BitVec 1 := Scalar.cmpi .slt v43 c0_i32_25
  let c0_i32_26 : BitVec 32 := 0#32
  let v46 : BitVec 1 := Scalar.cmpi .slt v42 c0_i32_26
  let v47 : BitVec 1 := Scalar.xori v45 v46
  let c0_i32_24 : BitVec 32 := 0#32
  let v44 : BitVec 1 := Scalar.cmpi .ne v43 c0_i32_24
  let v48 : BitVec 1 := Scalar.andi v47 v44
  let v49 : BitVec 32 := Scalar.addi v43 v42
  let v50 : BitVec 32 := Scalar.select v48 v49 v43
  ![v50.toNat]
def k0_cond3 (i : grid0.Coords) : BitVec 1 :=
  let arg0 : BitVec 32 := BitVec.ofNat 32 (i 0).val
  let c32_i32 : BitVec 32 := 32#32
  let v13 : BitVec 1 := Scalar.cmpi .slt arg0 c32_i32
  let v14 : BitVec 32 := Scalar.extui v13
  let c0_i32_6 : BitVec 32 := 0#32
  let v15 : BitVec 1 := Scalar.cmpi .ne v14 c0_i32_6
  v15

def k0_off5 (i : grid0.Coords) : Fin 3 → Nat :=
  let arg0 : BitVec 32 := BitVec.ofNat 32 (i 0).val
  let c3_i32 : BitVec 32 := 3#32
  let c0_i32_12 : BitVec 32 := 0#32
  let v25 : BitVec 1 := Scalar.cmpi .eq c3_i32 c0_i32_12
  let c1_i32_13 : BitVec 32 := 1#32
  let v26 : BitVec 32 := Scalar.select v25 c1_i32_13 c3_i32
  let v27 : BitVec 32 := Scalar.remsi arg0 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let v35 : Index := Scalar.indexCast v34
  let c0_17 : Index := 0#32
  let c0_18 : Index := 0#32
  ![v35.toNat, 0, 0]
def k0_off6 (i : grid0.Coords) : Fin 1 → Nat :=
  let arg0 : BitVec 32 := BitVec.ofNat 32 (i 0).val
  let c3_i32_30 : BitVec 32 := 3#32
  let v59 : BitVec 32 := Scalar.remsi arg0 c3_i32_30
  ![v59.toNat]
def k0_off7 (i : grid0.Coords) : Fin 1 → Nat :=
  let arg0 : BitVec 32 := BitVec.ofNat 32 (i 0).val
  let c5_i32_31 : BitVec 32 := 5#32
  let c0_i32_32 : BitVec 32 := 0#32
  let v60 : BitVec 1 := Scalar.cmpi .eq c5_i32_31 c0_i32_32
  let c1_i32_33 : BitVec 32 := 1#32
  let v61 : BitVec 32 := Scalar.select v60 c1_i32_33 c5_i32_31
  let v62 : BitVec 32 := Scalar.remsi arg0 v61
  let c0_i32_35 : BitVec 32 := 0#32
  let v64 : BitVec 1 := Scalar.cmpi .slt v62 c0_i32_35
  let c0_i32_36 : BitVec 32 := 0#32
  let v65 : BitVec 1 := Scalar.cmpi .slt v61 c0_i32_36
  let v66 : BitVec 1 := Scalar.xori v64 v65
  let c0_i32_34 : BitVec 32 := 0#32
  let v63 : BitVec 1 := Scalar.cmpi .ne v62 c0_i32_34
  let v67 : BitVec 1 := Scalar.andi v66 v63
  let v68 : BitVec 32 := Scalar.addi v62 v61
  let v69 : BitVec 32 := Scalar.select v67 v68 v62
  ![v69.toNat]
def k0_off8 (i : grid0.Coords) : Fin 3 → Nat :=
  let arg0 : BitVec 32 := BitVec.ofNat 32 (i 0).val
  let c5_i32 : BitVec 32 := 5#32
  let c0_i32_25 : BitVec 32 := 0#32
  let v49 : BitVec 1 := Scalar.cmpi .eq c5_i32 c0_i32_25
  let c1_i32_26 : BitVec 32 := 1#32
  let v50 : BitVec 32 := Scalar.select v49 c1_i32_26 c5_i32
  let v51 : BitVec 32 := Scalar.remsi arg0 v50
  let c0_i32_28 : BitVec 32 := 0#32
  let v53 : BitVec 1 := Scalar.cmpi .slt v51 c0_i32_28
  let c0_i32_29 : BitVec 32 := 0#32
  let v54 : BitVec 1 := Scalar.cmpi .slt v50 c0_i32_29
  let v55 : BitVec 1 := Scalar.xori v53 v54
  let c0_i32_27 : BitVec 32 := 0#32
  let v52 : BitVec 1 := Scalar.cmpi .ne v51 c0_i32_27
  let v56 : BitVec 1 := Scalar.andi v55 v52
  let v57 : BitVec 32 := Scalar.addi v51 v50
  let v58 : BitVec 32 := Scalar.select v56 v57 v51
  let c0_i32_40 : BitVec 32 := 0#32
  let c0_i32_41 : BitVec 32 := 0#32
  ![v58.toNat, 0, 0]
def k0_off9 (i : grid0.Coords) : Fin 3 → Nat :=
  let arg0 : BitVec 32 := BitVec.ofNat 32 (i 0).val
  let c3_i32_19 : BitVec 32 := 3#32
  let c0_i32_20 : BitVec 32 := 0#32
  let v39 : BitVec 1 := Scalar.cmpi .eq c3_i32_19 c0_i32_20
  let c1_i32_21 : BitVec 32 := 1#32
  let v40 : BitVec 32 := Scalar.select v39 c1_i32_21 c3_i32_19
  let v41 : BitVec 32 := Scalar.remsi arg0 v40
  let c0_i32_23 : BitVec 32 := 0#32
  let v43 : BitVec 1 := Scalar.cmpi .slt v41 c0_i32_23
  let c0_i32_24 : BitVec 32 := 0#32
  let v44 : BitVec 1 := Scalar.cmpi .slt v40 c0_i32_24
  let v45 : BitVec 1 := Scalar.xori v43 v44
  let c0_i32_22 : BitVec 32 := 0#32
  let v42 : BitVec 1 := Scalar.cmpi .ne v41 c0_i32_22
  let v46 : BitVec 1 := Scalar.andi v45 v42
  let v47 : BitVec 32 := Scalar.addi v41 v40
  let v48 : BitVec 32 := Scalar.select v46 v47 v41
  let c0_i32_42 : BitVec 32 := 0#32
  let c0_i32_43 : BitVec 32 := 0#32
  ![v48.toNat, 0, 0]
def k0_dev2 (d0 : Dev nD) : Nat :=
  let c0_i32_38 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_37 : BitVec 32 := 2#32
  let v70 : BitVec 32 := Scalar.muli v2 c2_i32_37
  let v71 : BitVec 32 := Scalar.addi c0_i32_38 v70
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_39 : BitVec 32 := 1#32
  let v72 : BitVec 32 := Scalar.muli v6 c1_i32_39
  let v73 : BitVec 32 := Scalar.addi v71 v72
  v73.toNat
def k0_cond4 (i : grid0.Coords) : BitVec 1 :=
  let arg0 : BitVec 32 := BitVec.ofNat 32 (i 0).val
  let c2_i32_7 : BitVec 32 := 2#32
  let v16 : BitVec 1 := Scalar.cmpi .sge arg0 c2_i32_7
  let v17 : BitVec 32 := Scalar.extui v16
  let c0_i32_8 : BitVec 32 := 0#32
  let v18 : BitVec 1 := Scalar.cmpi .ne v17 c0_i32_8
  v18

def k0_off10 (i : grid0.Coords) : Fin 3 → Nat :=
  let arg0 : BitVec 32 := BitVec.ofNat 32 (i 0).val
  let c2_i32_9 : BitVec 32 := 2#32
  let v19 : BitVec 32 := Scalar.subi arg0 c2_i32_9
  let c3_i32 : BitVec 32 := 3#32
  let c0_i32_10 : BitVec 32 := 0#32
  let v20 : BitVec 1 := Scalar.cmpi .eq c3_i32 c0_i32_10
  let c1_i32_11 : BitVec 32 := 1#32
  let v21 : BitVec 32 := Scalar.select v20 c1_i32_11 c3_i32
  let v22 : BitVec 32 := Scalar.remsi v19 v21
  let c0_i32_13 : BitVec 32 := 0#32
  let v24 : BitVec 1 := Scalar.cmpi .slt v22 c0_i32_13
  let c0_i32_14 : BitVec 32 := 0#32
  let v25 : BitVec 1 := Scalar.cmpi .slt v21 c0_i32_14
  let v26 : BitVec 1 := Scalar.xori v24 v25
  let c0_i32_12 : BitVec 32 := 0#32
  let v23 : BitVec 1 := Scalar.cmpi .ne v22 c0_i32_12
  let v27 : BitVec 1 := Scalar.andi v26 v23
  let v28 : BitVec 32 := Scalar.addi v22 v21
  let v29 : BitVec 32 := Scalar.select v27 v28 v22
  let v30 : Index := Scalar.indexCast v29
  let c0 : Index := 0#32
  let c0_15 : Index := 0#32
  ![v30.toNat, 0, 0]
def k0_off11 (i : grid0.Coords) : Fin 3 → Nat :=
  let arg0 : BitVec 32 := BitVec.ofNat 32 (i 0).val
  let c2_i32_9 : BitVec 32 := 2#32
  let v19 : BitVec 32 := Scalar.subi arg0 c2_i32_9
  let c5_i32 : BitVec 32 := 5#32
  let c0_i32_16 : BitVec 32 := 0#32
  let v33 : BitVec 1 := Scalar.cmpi .eq c5_i32 c0_i32_16
  let c1_i32_17 : BitVec 32 := 1#32
  let v34 : BitVec 32 := Scalar.select v33 c1_i32_17 c5_i32
  let v35 : BitVec 32 := Scalar.remsi v19 v34
  let c0_i32_19 : BitVec 32 := 0#32
  let v37 : BitVec 1 := Scalar.cmpi .slt v35 c0_i32_19
  let c0_i32_20 : BitVec 32 := 0#32
  let v38 : BitVec 1 := Scalar.cmpi .slt v34 c0_i32_20
  let v39 : BitVec 1 := Scalar.xori v37 v38
  let c0_i32_18 : BitVec 32 := 0#32
  let v36 : BitVec 1 := Scalar.cmpi .ne v35 c0_i32_18
  let v40 : BitVec 1 := Scalar.andi v39 v36
  let v41 : BitVec 32 := Scalar.addi v35 v34
  let v42 : BitVec 32 := Scalar.select v40 v41 v35
  let v43 : Index := Scalar.indexCast v42
  let c0_21 : Index := 0#32
  let c0_22 : Index := 0#32
  ![v43.toNat, 0, 0]
def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8192x4096 : Shape := ⟨2, ![8192, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Cells.lean ====
/-
# The pair protocol: devices, slots, cells, what each round hands over

Devices `2*x + 0` and `2*x + 1` work as a pair. Each computes 32 chunks; chunk `j` is the product of 128 rows of the
device's block of `A` with its block of `B`, rounded to `bf16`. Chunk `j` is stored in send slot `j % 3` and copied
to the other device's receive slot `j % 5`.

* The barrier cell of a device has one round, of one unit, paid by the other device. It hands over the right to write
  the other device's receive slots for chunks 0 and 1.
* Send cell `j % 3`, round `j / 3`, is chunk `j`'s departure: it hands the send slot back.
* Receive cell `j % 5`, round `j / 5`, is chunk `j`'s arrival: it hands over the slot holding the other device's chunk
  `j`, and the right to write the other device's receive slot for chunk `j + 2`, which that device gave up when it sent.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

set_option maxRecDepth 16384

noncomputable section

namespace Cert.Pair

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (one duty name) -/

/-- The protocol's rounds algebra. -/
abbrev UB : Type := URounds (GSem nD τ sig) Unit
/-- The pipeline's algebra and the protocol's. -/
abbrev UU : Type := UR sig nD τ × UB

local notation "𝕄" => MT nD τ sig ℕ (Elt F) ℕ UU ℕ

/-- The pipeline's place in the algebra. -/
abbrev EP : Emb (UR sig nD τ) (MT nD τ sig ℕ (Elt F) ℕ UU ℕ) := embL
/-- The protocol's place in the algebra. -/
abbrev ER : Emb UB (MT nD τ sig ℕ (Elt F) ℕ UU ℕ) := embR

variable (m : (ℓ : Loc nD τ sig) → Buf (Elt F) ℓ)

/-! ## Devices -/

set_option backward.proofsInPublic true in
/-- The other device of the pair. -/
def peer (c : Dev nD) : Dev nD := ⟨2 * (c.val / 2) + 1 - c.val % 2, by have := c.isLt; simp only [nD] at *; omega⟩

/-- The peer's peer is the device itself. -/
theorem peer_peer (c : Dev nD) : peer (peer c) = c := by revert c; decide

/-- The pairing as a permutation of the devices. -/
def pairing : Dev nD ≃ Dev nD := ⟨peer, peer, peer_peer, peer_peer⟩

/-- The barrier signal names the other device of the pair. -/
theorem dev1_eq (i : grid0.Coords) (c : Dev nD) (h : k0_cond1 i = 1#1) : (⟨k0_dev1 c, k0_dev1_lt i c h⟩ : Dev nD) = peer c :=
  Fin.ext (by show k0_dev1 c = (peer c).val; rw [k0_dev1_eq]; rfl)
/-- The copy names the other device of the pair. -/
theorem dev2_eq (i : grid0.Coords) (c : Dev nD) (h : k0_cond3 i = 1#1) : (⟨k0_dev2 c, k0_dev2_lt i c h⟩ : Dev nD) = peer c :=
  Fin.ext (by show k0_dev2 c = (peer c).val; rw [k0_dev2_eq]; rfl)

/-! ## Slots -/

/-- The send buffer. -/
abbrev sendM : Memref sig .tc .vmem S3x128x4096 .bf16 := Memref.whole cc0_scratch0
/-- The receive buffer. -/
abbrev recvM : Memref sig .tc .vmem S5x128x4096 .bf16 := Memref.whole cc0_scratch1

/-- A send slot is inside the send buffer. -/
theorem inbS (j : ℕ) (a : Fin S3x128x4096.rank) : (![j % 3, 0, 0] : Fin 3 → ℕ) a + S1x128x4096.size a ≤ S3x128x4096.size a := by
  have := Nat.mod_lt j (show 0 < 3 by decide)
  fin_cases a <;> simp [S1x128x4096, S3x128x4096] <;> omega
/-- A receive slot is inside the receive buffer. -/
theorem inbR (j : ℕ) (a : Fin S5x128x4096.rank) : (![j % 5, 0, 0] : Fin 3 → ℕ) a + S1x128x4096.size a ≤ S5x128x4096.size a := by
  have := Nat.mod_lt j (show 0 < 5 by decide)
  fin_cases a <;> simp [S1x128x4096, S5x128x4096] <;> omega

/-- The rectangle of send slot `j % 3`, and of receive slot `j % 5`. -/
abbrev sR (j : ℕ) : Rect S3x128x4096 := Rect.unit (s := S3x128x4096) ![j % 3, 0, 0] S1x128x4096.size (inbS j)
/-- The rectangle of chunk `j`'s receive slot. -/
abbrev rR (j : ℕ) : Rect S5x128x4096 := Rect.unit (s := S5x128x4096) ![j % 5, 0, 0] S1x128x4096.size (inbR j)

/-- Send slot `j % 3`, and receive slot `j % 5`, as arrays of 128 rows. -/
abbrev sM (j : ℕ) : Memref sig .tc .vmem S128x4096 .bf16 := (sendM.slice (sR j) (fun _ => rfl)).squeeze S128x4096 squeezes_S1x128x4096_S128x4096
/-- Chunk `j`'s receive slot. -/
abbrev rM (j : ℕ) : Memref sig .tc .vmem S128x4096 .bf16 := (recvM.slice (rR j) (fun _ => rfl)).squeeze S128x4096 squeezes_S1x128x4096_S128x4096

/-- Slots are periodic. -/
theorem sM_congr {j k : ℕ} (h : j % 3 = k % 3) : sM j = sM k := by
  unfold sM; congr 1
  exact Memref.slice_unit_congr _ (by rw [h]) _ _ _ _
/-- Chunks five apart have the same receive slot. -/
theorem rM_congr {j k : ℕ} (h : j % 5 = k % 5) : rM j = rM k := by
  unfold rM; congr 1
  exact Memref.slice_unit_congr _ (by rw [h]) _ _ _ _

/-- A slot named through other offsets is the slot. -/
theorem sM_of {j : ℕ} {off : Fin 3 → ℕ} (h : off = ![j % 3, 0, 0]) (inb) (hs) :
    ((sendM.slice (Rect.unit (s := S3x128x4096) off S1x128x4096.size inb) hs).squeeze S128x4096 squeezes_S1x128x4096_S128x4096
      : Memref sig .tc .vmem S128x4096 .bf16) = sM j := by subst h; rfl
/-- A view at an offset equal to a receive slot's is that slot. -/
theorem rM_of {j : ℕ} {off : Fin 3 → ℕ} (h : off = ![j % 5, 0, 0]) (inb) (hs) :
    ((recvM.slice (Rect.unit (s := S5x128x4096) off S1x128x4096.size inb) hs).squeeze S128x4096 squeezes_S1x128x4096_S128x4096
      : Memref sig .tc .vmem S128x4096 .bf16) = rM j := by subst h; rfl

/-! ## Cells -/

/-- The barrier semaphore. -/
abbrev barS : Sem sig := (SemArray.scalar (sig.barrier 0 rfl) : Sems sig S_).sem

set_option backward.proofsInPublic true in
/-- Send semaphore `j % 3`, and receive semaphore `j % 5`. -/
def sSem (j : ℕ) : DmaSem sig := ⟨5 + j % 3, by have := Nat.mod_lt j (show 0 < 3 by decide); show 5 + j % 3 < 13; omega⟩
set_option backward.proofsInPublic true in
/-- Chunk `j`'s receive semaphore. -/
def rSem (j : ℕ) : DmaSem sig := ⟨8 + j % 5, by have := Nat.mod_lt j (show 0 < 5 by decide); show 8 + j % 5 < 13; omega⟩

/-- Chunks three apart have the same send semaphore. -/
theorem sSem_congr {j k : ℕ} (h : j % 3 = k % 3) : sSem j = sSem k := Fin.ext (by simp only [sSem, h])
/-- Chunks five apart have the same receive semaphore. -/
theorem rSem_congr {j k : ℕ} (h : j % 5 = k % 5) : rSem j = rSem k := Fin.ext (by simp only [rSem, h])

/-- Every send semaphore is inside its array. -/
theorem inbs3 (s : Fin 3) (a : Fin S3.rank) : (![s.val] : Fin 1 → ℕ) a + S1.size a ≤ S3.size a := by revert s a; decide
/-- Every receive semaphore is inside its array. -/
theorem inbs5 (s : Fin 5) (a : Fin S5.rank) : (![s.val] : Fin 1 → ℕ) a + S1.size a ≤ S5.size a := by revert s a; decide
/-- The send semaphores one by one. -/
theorem sSem_tab : ∀ s : Fin 3, ((cc0_scratch2.slice (Rect.unit (s := S3) ![s.val] S1.size (inbs3 s))).squeeze S_ squeezes_S1_S_).sem = sSem s.val := by
  decide +kernel
/-- The receive semaphores one by one. -/
theorem rSem_tab : ∀ s : Fin 5, ((cc0_scratch3.slice (Rect.unit (s := S5) ![s.val] S1.size (inbs5 s))).squeeze S_ squeezes_S1_S_).sem = rSem s.val := by
  decide +kernel

/-- A semaphore named through other offsets is the semaphore. -/
theorem sSem_of {j : ℕ} {off : Fin 1 → ℕ} (h : off = ![j % 3]) (inb) :
    ((cc0_scratch2.slice (Rect.unit (s := S3) off S1.size inb)).squeeze S_ squeezes_S1_S_).sem = sSem j := by
  subst h
  exact (sSem_tab ⟨j % 3, Nat.mod_lt _ (by decide)⟩).trans (sSem_congr (Nat.mod_mod _ _))
/-- A semaphore at an offset equal to chunk `j`'s is chunk `j`'s receive semaphore. -/
theorem rSem_of {j : ℕ} {off : Fin 1 → ℕ} (h : off = ![j % 5]) (inb) :
    ((cc0_scratch3.slice (Rect.unit (s := S5) off S1.size inb)).squeeze S_ squeezes_S1_S_).sem = rSem j := by
  subst h
  exact (rSem_tab ⟨j % 5, Nat.mod_lt _ (by decide)⟩).trans (rSem_congr (Nat.mod_mod _ _))

/-- Device `c`'s barrier cell. -/
abbrev barCell (c : Dev nD) : GSem nD τ sig := ((c : Thread nD τ), .reg barS)
/-- Device `c`'s send cell for chunk `j`. -/
abbrev sendCell (c : Dev nD) (j : ℕ) : GSem nD τ sig := ((c : Thread nD τ), .dma (sSem j))
/-- Device `c`'s receive cell for chunk `j`. -/
abbrev recvCell (c : Dev nD) (j : ℕ) : GSem nD τ sig := ((c : Thread nD τ), .dma (rSem j))

/-- The credit of one slot's transfer. -/
abbrev N : ℕ := (rM 0).view.dmaCredit
/-- A copy's credit is positive. -/
theorem N_pos : 0 < N := View.dmaCredit_pos _ (by decide)
/-- A receive slot's copy credit. -/
theorem credit_r (j : ℕ) : (rM j).view.dmaCredit = N := rfl
/-- A send slot's copy credit. -/
theorem credit_s (j : ℕ) : (sM j).view.dmaCredit = N := rfl

/-! ## Contents -/

set_option backward.proofsInPublic true in
/-- Point `j` of the grid. -/
def pt (j : ℕ) : Fin cfg0.N := ⟨j % 34, by rw [show cfg0.N = 34 from N_0]; exact Nat.mod_lt _ (by decide)⟩

/-- Chunk `j` as device `c` computes it: what it stores in its send slot. -/
def part (c : Dev nD) (j : ℕ) : S128x4096.Idx → Elt F .bf16 :=
  shapeCast S128x4096 (k0_pay2 (F := F) (iblk m c 0 (pt j)) (iblk m c 1 (pt j))) shapeCasts_S1x128x4096_S128x4096

/-! ## What each round hands over -/

/-- Receive slot of chunk `j` on device `c`, at any contents. -/
def rAny (c : Dev nD) (j : ℕ) : sProp 𝕄 :=
  iprop(∃ f : Buf (Elt F) ((rM j).view.loc (c : Thread nD τ)), (rM j).view.loc (c : Thread nD τ) ↦[(rM j).view.set]{fullShare} f)
/-- Send slot of chunk `j` on device `c`, at any contents. -/
def sAny (c : Dev nD) (j : ℕ) : sProp 𝕄 :=
  iprop(∃ f : Buf (Elt F) ((sM j).view.loc (c : Thread nD τ)), (sM j).view.loc (c : Thread nD τ) ↦[(sM j).view.set]{fullShare} f)

/-- The right to write chunk `j` to device `c`: its receive slot, and that its receive cell has come to chunk `j`. -/
def rFree (c : Dev nD) (j : ℕ) : sProp 𝕄 := iprop(rAny c j ∗ reached ER (recvCell c j) (j / 5))
/-- Device `c`'s send slot ready for chunk `j`, and that its send cell has come to chunk `j`. -/
def sFree (c : Dev nD) (j : ℕ) : sProp 𝕄 := iprop(sAny c j ∗ reached ER (sendCell c j) (j / 3))

/-- The right to write the chunk after next, while there is one. -/
def nextFree (c : Dev nD) (j : ℕ) : sProp 𝕄 := if j + 2 < 32 then rFree c (j + 2) else iprop(emp)

/-- The barrier hands over the peer's receive slots for chunks 0 and 1. -/
def barPay (c : Dev nD) : sProp 𝕄 := iprop(rFree (peer c) 0 ∗ rFree (peer c) 1)
/-- A departure hands back the send slot, still holding its chunk. -/
def sendPay (c : Dev nD) (j : ℕ) : sProp 𝕄 := owns (c : Thread nD τ) (sM j) fullShare (part m c j)
/-- An arrival hands over the slot holding the peer's chunk, and the peer's slot for chunk `j + 2`. -/
def recvPay (c : Dev nD) (j : ℕ) : sProp 𝕄 := iprop(owns (c : Thread nD τ) (rM j) fullShare (part m (peer c) j) ∗ nextFree (peer c) j)

omit [FloatOps F] in
/-- This may be kept in a cell. -/
instance rAny_storable (c : Dev nD) (j : ℕ) : BI.Storable (upEmb : UEmb _ 𝕄) (rAny (F := F) c j) := by unfold rAny; infer_instance
omit [FloatOps F] in
/-- This may be kept in a cell. -/
instance rFree_storable (c : Dev nD) (j : ℕ) : BI.Storable (upEmb : UEmb _ 𝕄) (rFree (F := F) c j) := by unfold rFree; infer_instance
omit [FloatOps F] in
/-- This may be kept in a cell. -/
instance nextFree_storable (c : Dev nD) (j : ℕ) : BI.Storable (upEmb : UEmb _ 𝕄) (nextFree (F := F) c j) := by
  unfold nextFree; split <;> infer_instance
omit [FloatOps F] in
/-- What the barrier hands over may be kept in a cell. -/
instance barPay_storable (c : Dev nD) : BI.Storable (upEmb : UEmb _ 𝕄) (barPay (F := F) c) := by unfold barPay; infer_instance
/-- What a departure hands over may be kept in a cell. -/
instance sendPay_storable (c : Dev nD) (j : ℕ) : BI.Storable (upEmb : UEmb _ 𝕄) (sendPay (F := F) m c j) := by
  unfold sendPay owns; infer_instance
/-- What an arrival hands over may be kept in a cell. -/
instance recvPay_storable (c : Dev nD) (j : ℕ) : BI.Storable (upEmb : UEmb _ 𝕄) (recvPay (F := F) m c j) := by
  unfold recvPay owns; infer_instance

/-- The rounds: one duty each, on TensorCore cells only, for chunks below 32. -/
def Rd : Rounds.Schedule (GSem nD τ sig) Unit 𝕄 where
  duties g r := match g.2 with
    | .reg s => if g.1.2 = .tc ∧ r = 0 then Finset.univ else ∅
    | .dma q => if g.1.2 = .tc ∧ ((5 ≤ q.val ∧ q.val < 8 ∧ 3 * r + (q.val - 5) < 32) ∨ (8 ≤ q.val ∧ 5 * r + (q.val - 8) < 32)) then Finset.univ else ∅
  unitless _ := False
  amount g _ _ := match g.2 with
    | .reg _ => 1
    | .dma _ => N
  payload g r _ := match g.2 with
    | .reg _ => barPay g.1.1
    | .dma q => if q.val < 8 then sendPay m g.1.1 (3 * r + (q.val - 5)) else recvPay m g.1.1 (5 * r + (q.val - 8))
  amount_pos g _ _ _ := by
    obtain ⟨g1, g2⟩ := g
    cases g2
    · exact Nat.one_pos
    · exact N_pos

/-- Every payload may be kept in a cell. -/
instance Rd_storable (g : GSem nD τ sig) (r : ℕ) (d : Unit) : BI.Storable (upEmb : UEmb _ 𝕄) ((Rd (F := F) m).payload g r d) := by
  obtain ⟨g1, g2⟩ := g
  cases g2
  · show BI.Storable upEmb (barPay (F := F) g1.1); infer_instance
  · rename_i q
    show BI.Storable upEmb (if q.val < 8 then sendPay m g1.1 (3 * r + (q.val - 5)) else recvPay m g1.1 (5 * r + (q.val - 8)))
    split <;> infer_instance

section Sched
variable (c : Dev nD) (j : ℕ)

/-- A send cell's round and semaphore determine the chunk. -/
theorem s_idx (j : ℕ) : 3 * (j / 3) + ((sSem j).val - 5) = j := by show 3 * (j / 3) + (5 + j % 3 - 5) = j; omega
/-- A receive cell's round and semaphore determine the chunk. -/
theorem r_idx (j : ℕ) : 5 * (j / 5) + ((rSem j).val - 8) = j := by show 5 * (j / 5) + (8 + j % 5 - 8) = j; omega
/-- The send semaphores are numbered 5 to 7. -/
theorem sSem_lt (j : ℕ) : 5 ≤ (sSem j).val ∧ (sSem j).val < 8 := by
  show 5 ≤ 5 + j % 3 ∧ 5 + j % 3 < 8; have := Nat.mod_lt j (show 0 < 3 by decide); omega
/-- The receive semaphores are numbered from 8 on. -/
theorem rSem_ge (j : ℕ) : 8 ≤ (rSem j).val := by show 8 ≤ 8 + j % 5; omega
/-- No send semaphore is a receive semaphore. -/
theorem sSem_ne_rSem (j k : ℕ) : sSem j ≠ rSem k := fun h => by
  have h1 := (sSem_lt j).2; rw [h] at h1; exact absurd (rSem_ge k) (by omega)

/-- The barrier's round has its one duty. -/
theorem duties_bar : (Rd (F := F) m).duties (barCell c) 0 = Finset.univ := by
  show (if ((c : Thread nD τ).2 = Proc.tc ∧ (0 : ℕ) = 0) then Finset.univ else ∅) = Finset.univ
  exact if_pos ⟨rfl, rfl⟩
/-- A chunk's departure is a duty. -/
theorem duties_send (h : j < 32) : (Rd (F := F) m).duties (sendCell c j) (j / 3) = Finset.univ :=
  if_pos ⟨rfl, Or.inl ⟨(sSem_lt j).1, (sSem_lt j).2, by rw [s_idx]; exact h⟩⟩
/-- A chunk's arrival is a duty. -/
theorem duties_recv (h : j < 32) : (Rd (F := F) m).duties (recvCell c j) (j / 5) = Finset.univ :=
  if_pos ⟨rfl, Or.inr ⟨rSem_ge j, by rw [r_idx]; exact h⟩⟩

/-- The barrier has no duty after round 0. -/
theorem duties_bar_later : ∀ r, 1 ≤ r → (Rd (F := F) m).duties (barCell c) r = ∅ := fun r hr => if_neg fun h => by have := h.2; omega
/-- A send cell has no duty past chunk 31. -/
theorem duties_send_later (h : 32 ≤ j) : ∀ r, j / 3 ≤ r → (Rd (F := F) m).duties (sendCell c j) r = ∅ := fun r hr => by
  refine if_neg fun hh => ?_
  have h1 := s_idx j
  have h2 := (sSem_lt j).2
  rcases hh.2 with h' | h'
  · have := h'.2.2; dsimp only at this; omega
  · have := h'.1; dsimp only at this; omega
/-- A receive cell has no duty past chunk 31. -/
theorem duties_recv_later (h : 32 ≤ j) : ∀ r, j / 5 ≤ r → (Rd (F := F) m).duties (recvCell c j) r = ∅ := fun r hr => by
  refine if_neg fun hh => ?_
  have h1 := r_idx j
  have h2 := rSem_ge j
  rcases hh.2 with h' | h'
  · have := h'.2.1; dsimp only at this; omega
  · have := h'.2; dsimp only at this; omega

/-- The barrier's duty is one unit. -/
theorem amount_bar (r : ℕ) (d : Unit) : (Rd (F := F) m).amount (barCell c) r d = 1 := rfl
/-- A departure is one slot's credit. -/
theorem amount_send (r : ℕ) (d : Unit) : (Rd (F := F) m).amount (sendCell c j) r d = N := rfl
/-- An arrival is one slot's credit. -/
theorem amount_recv (r : ℕ) (d : Unit) : (Rd (F := F) m).amount (recvCell c j) r d = N := rfl

/-- The barrier's round brings one unit. -/
theorem expect_bar : (Rd (F := F) m).expect (barCell c) 0 = 1 := by
  unfold Schedule.expect Schedule.amountOf
  rw [duties_bar, Finset.sum_congr rfl fun d _ => amount_bar m c 0 d]; rfl
/-- A departure's round brings one slot's credit. -/
theorem expect_send (h : j < 32) : (Rd (F := F) m).expect (sendCell c j) (j / 3) = N := by
  unfold Schedule.expect Schedule.amountOf
  rw [duties_send m c j h, Finset.sum_congr rfl fun d _ => amount_send m c j _ d, Finset.sum_const, Finset.card_univ, Fintype.card_unit, one_smul]
/-- An arrival's round brings one slot's credit. -/
theorem expect_recv (h : j < 32) : (Rd (F := F) m).expect (recvCell c j) (j / 5) = N := by
  unfold Schedule.expect Schedule.amountOf
  rw [duties_recv m c j h, Finset.sum_congr rfl fun d _ => amount_recv m c j _ d, Finset.sum_const, Finset.card_univ, Fintype.card_unit, one_smul]

/-- What the barrier's duty hands over. -/
theorem payload_bar (d : Unit) : (Rd (F := F) m).payload (barCell c) 0 d = barPay c := rfl
/-- What a departure hands over. -/
theorem payload_send (d : Unit) : (Rd (F := F) m).payload (sendCell c j) (j / 3) d = sendPay m c j :=
  (if_pos (sSem_lt j).2).trans (by rw [s_idx])
/-- What an arrival hands over. -/
theorem payload_recv (d : Unit) : (Rd (F := F) m).payload (recvCell c j) (j / 5) d = recvPay m c j :=
  (if_neg (by have := rSem_ge j; dsimp only; omega)).trans (by rw [r_idx])

/-- A product over one index is its one factor. -/
theorem bigSep_unit (Φ : Unit → sProp 𝕄) : bigSep Finset.univ Φ = Φ () := by
  rw [show (Finset.univ : Finset Unit) = {()} from rfl, bigSep_singleton]

/-- What the barrier's whole round hands over. -/
theorem rest_bar : bigSep ((Rd (F := F) m).duties (barCell c) 0 \ ∅) (fun d => (Rd (F := F) m).payload (barCell c) 0 d) = barPay c := by
  rw [Finset.sdiff_empty, duties_bar, bigSep_unit, payload_bar]
/-- What a departure's whole round hands over. -/
theorem rest_send (h : j < 32) : bigSep ((Rd (F := F) m).duties (sendCell c j) (j / 3) \ ∅) (fun d => (Rd (F := F) m).payload (sendCell c j) (j / 3) d) = sendPay m c j := by
  rw [Finset.sdiff_empty, duties_send m c j h, bigSep_unit, payload_send]
/-- What an arrival's whole round hands over. -/
theorem rest_recv (h : j < 32) : bigSep ((Rd (F := F) m).duties (recvCell c j) (j / 5) \ ∅) (fun d => (Rd (F := F) m).payload (recvCell c j) (j / 5) d) = recvPay m c j := by
  rw [Finset.sdiff_empty, duties_recv m c j h, bigSep_unit, payload_recv]

end Sched

end Cert.Pair

end
-- ==== Proof.State.lean ====
/-
# The state of a device between two grid points

Before grid point `t` (and, at point 0, after the handshake) device `c` holds:

* the send slots that are free, for chunks `min t 32` up to `(t - 2) + 3`, and its own receive slots whose right it has
  not yet given away, for chunks `min (t + 2) 32` up to `(t - 2) + 5`;
* its position in each send cell and each receive cell;
* for every chunk from `t` on, the two tokens its copy spends;
* for every chunk from `t - 2` on, the credit of its arrival, and for the chunks in flight the credit of their departure.

Chunks past 31 never exist: they only name the cell and the round a slot has come to.
-/
module

public import proofs.«01_k».proof.Proof.Cells
public import Idealize.ShloMosaic.Lib.Ring.FamCut

@[expose] public section

set_option maxRecDepth 16384

noncomputable section

namespace Cert.Pair

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## The grid's coordinate, the conditions and the offsets in closed form -/

/-- A point's coordinate is its number. -/
theorem coord (t : Fin cfg0.N) : (grid0.coords t 0).val = t.val := by revert t; decide +kernel

/-- The handshake is at point 0. -/
theorem cond1_iff : ∀ i : grid0.Coords, Iff (k0_cond1 i = 1#1) ((i 0).val = 0) := by decide +kernel
/-- The waits are at points from 2 on. -/
theorem cond2_iff : ∀ i : grid0.Coords, Iff (k0_cond2 i = 1#1) (2 ≤ (i 0).val) := by decide +kernel
/-- The products and copies are at points below 32. -/
theorem cond3_iff : ∀ i : grid0.Coords, Iff (k0_cond3 i = 1#1) ((i 0).val < 32) := by decide +kernel
/-- The sums are at points from 2 on. -/
theorem cond4_iff : ∀ i : grid0.Coords, Iff (k0_cond4 i = 1#1) (2 ≤ (i 0).val) := by decide +kernel

/-- The waited send semaphore is that of chunk `t - 2`. -/
theorem off1_eq : ∀ i : grid0.Coords, 2 ≤ (i 0).val → k0_off1 i = ![((i 0).val - 2) % 3] := by decide +kernel
/-- The waited send slot is that of chunk `t - 2`. -/
theorem off2_eq : ∀ i : grid0.Coords, 2 ≤ (i 0).val → k0_off2 i = ![((i 0).val - 2) % 3, 0, 0] := by decide +kernel
/-- The waited receive slot is that of chunk `t - 2`. -/
theorem off3_eq : ∀ i : grid0.Coords, 2 ≤ (i 0).val → k0_off3 i = ![((i 0).val - 2) % 5, 0, 0] := by decide +kernel
/-- The waited receive semaphore is that of chunk `t - 2`. -/
theorem off4_eq : ∀ i : grid0.Coords, 2 ≤ (i 0).val → k0_off4 i = ![((i 0).val - 2) % 5] := by decide +kernel
/-- The slot stored into is the send slot of chunk `t`. -/
theorem off5_eq : ∀ i : grid0.Coords, k0_off5 i = ![(i 0).val % 3, 0, 0] := by decide +kernel
/-- The copy's send semaphore is that of chunk `t`. -/
theorem off6_eq : ∀ i : grid0.Coords, k0_off6 i = ![(i 0).val % 3] := by decide +kernel
/-- The copy's receive semaphore is that of chunk `t`. -/
theorem off7_eq : ∀ i : grid0.Coords, k0_off7 i = ![(i 0).val % 5] := by decide +kernel
/-- The copy's target is the receive slot of chunk `t`. -/
theorem off8_eq : ∀ i : grid0.Coords, k0_off8 i = ![(i 0).val % 5, 0, 0] := by decide +kernel
/-- The copy's source is the send slot of chunk `t`. -/
theorem off9_eq : ∀ i : grid0.Coords, k0_off9 i = ![(i 0).val % 3, 0, 0] := by decide +kernel
/-- The first summand is read from the send slot of chunk `t - 2`. -/
theorem off10_eq : ∀ i : grid0.Coords, 2 ≤ (i 0).val → k0_off10 i = ![((i 0).val - 2) % 3, 0, 0] := by decide +kernel
/-- The second summand is read from the receive slot of chunk `t - 2`. -/
theorem off11_eq : ∀ i : grid0.Coords, 2 ≤ (i 0).val → k0_off11 i = ![((i 0).val - 2) % 5, 0, 0] := by decide +kernel

/-! ## Conjunctions over an interval of chunks -/

section Interval
variable {M : Type} [URA M] {Φ : ℕ → sProp M}

/-- The first member apart. -/
theorem pull {a b : ℕ} (h : a < b) : bigSep (Finset.Ico a b) Φ = iprop(Φ a ∗ bigSep (Finset.Ico (a + 1) b) Φ) := by
  rw [show Finset.Ico a b = insert a (Finset.Ico (a + 1) b) from Finset.ext fun x => by
    rw [Finset.mem_insert, Finset.mem_Ico, Finset.mem_Ico]; omega]
  exact bigSep_insert (by rw [Finset.mem_Ico]; omega)
/-- The last member apart. -/
theorem push {a b : ℕ} (h : a ≤ b) : bigSep (Finset.Ico a (b + 1)) Φ = iprop(Φ b ∗ bigSep (Finset.Ico a b) Φ) := by
  rw [show Finset.Ico a (b + 1) = insert b (Finset.Ico a b) from Finset.ext fun x => by
    rw [Finset.mem_insert, Finset.mem_Ico, Finset.mem_Ico]; omega]
  exact bigSep_insert (by rw [Finset.mem_Ico]; omega)
/-- A product over an empty range is empty. -/
theorem none_of {a b : ℕ} (h : b ≤ a) : bigSep (Finset.Ico a b) Φ = iprop(emp) := by
  rw [Finset.Ico_eq_empty_of_le h]; exact bigSep_empty

end Interval

/-! ## The cells in a row, and their invariants -/

set_option backward.proofsInPublic true in
/-- A device's cells: the barrier, the three send cells, the five receive cells. -/
def csem (k : Fin 9) : SemLoc sig := if k.val = 0 then .reg barS else .dma ⟨4 + k.val, by have := k.isLt; show 4 + k.val < 13; omega⟩
/-- The cell of a device and the number of a semaphore. -/
abbrev kcell (ck : Dev nD × Fin 9) : GSem nD τ sig := ((ck.1 : Thread nD τ), csem ck.2)

set_option backward.proofsInPublic true in
/-- The number of chunk `j`'s send semaphore. -/
def sIx (j : ℕ) : Fin 9 := ⟨1 + j % 3, by have := Nat.mod_lt j (show 0 < 3 by decide); omega⟩
set_option backward.proofsInPublic true in
/-- The number of chunk `j`'s receive semaphore. -/
def rIx (j : ℕ) : Fin 9 := ⟨4 + j % 5, by have := Nat.mod_lt j (show 0 < 5 by decide); omega⟩

/-- Number 0 is the barrier. -/
theorem kcell_b (c : Dev nD) : kcell (c, 0) = barCell c := rfl
/-- The send semaphore's number names the send cell. -/
theorem kcell_s (c : Dev nD) (j : ℕ) : kcell (c, sIx j) = sendCell c j := by
  unfold kcell csem; rw [if_neg (by show ¬ (1 + j % 3 = 0); omega)]
  exact congrArg (fun q : DmaSem sig => (((c : Thread nD τ), SemLoc.dma q) : GSem nD τ sig)) (Fin.ext (by show 4 + (1 + j % 3) = 5 + j % 3; omega))
/-- The receive semaphore's number names the receive cell. -/
theorem kcell_r (c : Dev nD) (j : ℕ) : kcell (c, rIx j) = recvCell c j := by
  unfold kcell csem; rw [if_neg (by show ¬ (4 + j % 5 = 0); omega)]
  exact congrArg (fun q : DmaSem sig => (((c : Thread nD τ), SemLoc.dma q) : GSem nD τ sig)) (Fin.ext (by show 4 + (4 + j % 5) = 8 + j % 5; omega))

/-- Every cell's invariant, under the names `K`, and that every cell has come to round 0. -/
def records (K : Dev nD × Fin 9 → ℕ) : sProp 𝕄 :=
  iprop((bigSep Finset.univ fun ck : Dev nD × Fin 9 => cellInv ER (Rd m) (K ck) (kcell ck))
    ∗ bigSep Finset.univ fun ck : Dev nD × Fin 9 => reached ER (kcell ck) 0)

/-- The records may be used any number of times. -/
instance records_persistent (K : Dev nD × Fin 9 → ℕ) : BI.Persistent (records (F := F) m K) := by unfold records; infer_instance

/-- The records hold every cell's invariant. -/
theorem inv_at (K : Dev nD × Fin 9 → ℕ) (ck : Dev nD × Fin 9) : records m K ⊢ cellInv ER (Rd m) (K ck) (kcell ck) := by
  have h : (bigSep Finset.univ fun ck : Dev nD × Fin 9 => (cellInv ER (Rd m) (K ck) (kcell ck) : sProp 𝕄)) ⊢ cellInv ER (Rd m) (K ck) (kcell ck) :=
    bigSep_elim (Finset.mem_univ ck)
  unfold records; iintro ⟨H, -⟩
  iapply h; iexact H
/-- The records hold that every cell has reached round 0. -/
theorem reached_at (K : Dev nD × Fin 9 → ℕ) (ck : Dev nD × Fin 9) : records m K ⊢ (reached ER (kcell ck) 0 : sProp 𝕄) := by
  have h : (bigSep Finset.univ fun ck : Dev nD × Fin 9 => (reached ER (kcell ck) 0 : sProp 𝕄)) ⊢ reached ER (kcell ck) 0 := bigSep_elim (Finset.mem_univ ck)
  unfold records; iintro ⟨-, H⟩
  iapply h; iexact H

/-- The barrier cell's invariant. -/
theorem inv_b (K : Dev nD × Fin 9 → ℕ) (c : Dev nD) : records m K ⊢ cellInv ER (Rd m) (K (c, 0)) (barCell c) := by
  have h := inv_at m K (c, 0); rwa [kcell_b] at h
/-- A send cell's invariant. -/
theorem inv_s (K : Dev nD × Fin 9 → ℕ) (c : Dev nD) (j : ℕ) : records m K ⊢ cellInv ER (Rd m) (K (c, sIx j)) (sendCell c j) := by
  have h := inv_at m K (c, sIx j); rwa [kcell_s] at h
/-- A receive cell's invariant. -/
theorem inv_r (K : Dev nD × Fin 9 → ℕ) (c : Dev nD) (j : ℕ) : records m K ⊢ cellInv ER (Rd m) (K (c, rIx j)) (recvCell c j) := by
  have h := inv_at m K (c, rIx j); rwa [kcell_r] at h
/-- The barrier cell has reached round 0. -/
theorem reached_b (K : Dev nD × Fin 9 → ℕ) (c : Dev nD) : records m K ⊢ (reached ER (barCell c) 0 : sProp 𝕄) := by
  have h := reached_at m K (c, 0); rwa [kcell_b] at h
/-- A send cell has reached round 0. -/
theorem reached_s (K : Dev nD × Fin 9 → ℕ) (c : Dev nD) (j : ℕ) : records m K ⊢ (reached ER (sendCell c j) 0 : sProp 𝕄) := by
  have h := reached_at m K (c, sIx j); rwa [kcell_s] at h
/-- A receive cell has reached round 0. -/
theorem reached_r (K : Dev nD × Fin 9 → ℕ) (c : Dev nD) (j : ℕ) : records m K ⊢ (reached ER (recvCell c j) 0 : sProp 𝕄) := by
  have h := reached_at m K (c, rIx j); rwa [kcell_r] at h

/-! ## What a device owes; the levels -/

/-- Device `c` owes the other device the arrival of every chunk from `n` on. -/
def owedR (c : Dev nD) (n : ℕ) : CellTallies nD τ sig ℕ := ∑ j ∈ Finset.Ico n 32, tallyAt (recvCell (peer c) j) j N
/-- Before point 0 it owes its barrier unit besides. -/
def owedAt (c : Dev nD) (n : ℕ) : CellTallies nD τ sig ℕ :=
  if n = 0 then owedR c 0 + tallyAt (barCell (peer c)) 0 1 else owedR c n

/-- The arrivals owed from chunk `n` on are chunk `n`'s and those after it. -/
theorem owedR_pull (c : Dev nD) {n : ℕ} (h : n < 32) : owedR c n = owedR c (n + 1) + tallyAt (recvCell (peer c) n) n N := by
  unfold owedR
  rw [show Finset.Ico n 32 = insert n (Finset.Ico (n + 1) 32) from Finset.ext fun x => by
    rw [Finset.mem_insert, Finset.mem_Ico, Finset.mem_Ico]; omega]
  rw [Finset.sum_insert (by rw [Finset.mem_Ico]; omega), add_comm]
/-- From chunk 32 on no arrival is owed. -/
theorem owedR_done (c : Dev nD) {n : ℕ} (h : 32 ≤ n) : owedR c n = 0 := by unfold owedR; rw [Finset.Ico_eq_empty_of_le h, Finset.sum_empty]

/-- Indices are chunk numbers; the barrier is at level 1, the arrival of chunk `j` at level `2 + j`, all else at 0. -/
def L (g : GSem nD τ sig) : Finset ℕ := if g.1.2 = .tc then Finset.range 32 else ∅
/-- The level of a cell's units: departures lowest, then the barrier, then arrivals in the order of the chunks. -/
def lv (g : GSem nD τ sig) (j : ℕ) : ℕ := match g.2 with
  | .reg _ => 1
  | .dma q => if 8 ≤ q.val then 2 + j else 0

/-- Only TensorCore cells have levels. -/
theorem L_of_ne (g : GSem nD τ sig) (h : g.1.2 ≠ .tc) : L g = ∅ := if_neg h
/-- Every TensorCore cell has a level for each chunk. -/
theorem L_tc (c : Dev nD) (sm : SemLoc sig) : L ((c : Thread nD τ), sm) = Finset.range 32 := if_pos rfl

/-- What is owed is always an arrival at the peer. -/
theorem owedR_pos {c : Dev nD} {n : ℕ} {g : GSem nD τ sig} {u : ℕ} (h : 0 < owedR c n g u) :
    ∃ j, n ≤ j ∧ j < 32 ∧ g = recvCell (peer c) j ∧ u = j := by
  obtain ⟨j, hj, hp⟩ := Pipeline.sum_pos_exists h
  rw [Finset.mem_Ico] at hj
  rw [tallyAt_apply] at hp
  by_cases h' : g = recvCell (peer c) j ∧ u = j
  · exact ⟨j, hj.1, hj.2, h'.1, h'.2⟩
  · rw [if_neg h'] at hp; exact absurd hp (Nat.lt_irrefl 0)

/-- The level of chunk `u`'s arrival. -/
theorem lv_recv (c : Dev nD) (j u : ℕ) : lv (recvCell c j) u = 2 + u := if_pos (rSem_ge j)
/-- The level of a departure. -/
theorem lv_send (c : Dev nD) (j u : ℕ) : lv (sendCell c j) u = 0 := if_neg (by have := (sSem_lt j).2; omega)

omit [FloatOps F] in
/-- A wait at level at most `b` while every chunk owed is above it. -/
theorem mayWait_of (c : Dev nD) (sm : SemLoc sig) (u : ℕ) (hu : u < 32) (n b : ℕ) (h : lv ((c : Thread nD τ), sm) u ≤ b) (hb : b < 2 + n) :
    (levAts L lv : sProp 𝕄) ⊢ MayWait (c : Thread nD τ) sm u (owedR c n) :=
  MayOwe.of_cut (L := L) (lev := lv) b (fun p hp => by rw [Finset.mem_singleton.mp hp, L_tc]; exact Finset.mem_range.2 hu)
    (fun g u hg => by obtain ⟨j, h1, h2, rfl, rfl⟩ := owedR_pos hg; rw [L_tc]; exact Finset.mem_range.2 h2)
    (fun p hp => by rw [Finset.mem_singleton.mp hp]; exact h)
    (fun g u hg => by obtain ⟨j, h1, h2, rfl, rfl⟩ := owedR_pos hg; rw [lv_recv]; omega)

omit [FloatOps F] in
/-- The loop's own waits, on the staging semaphores. -/
theorem mayWait_stage (c : Dev nD) (q : DmaSem sig) (hq : q.val < 8) (n : ℕ) :
    (levAts L lv : sProp 𝕄) ⊢ MayWait (c : Thread nD τ) (.dma q) 0 (owedAt c n) := by
  have h0 : lv ((c : Thread nD τ), .dma q) 0 ≤ 0 := le_of_eq (if_neg (by omega))
  unfold owedAt
  split
  · have hp : ∀ (g : GSem nD τ sig) (u : ℕ), 0 < (owedR c 0 + tallyAt (barCell (peer c)) 0 1 : CellTallies nD τ sig ℕ) g u →
        (∃ j, j < 32 ∧ g = recvCell (peer c) j ∧ u = j) ∨ (g = barCell (peer c) ∧ u = 0) := fun g u hg => by
      rw [Pi.add_apply, Finsupp.add_apply] at hg
      rcases Nat.eq_zero_or_pos (owedR c 0 g u) with h | h
      · rw [h, Nat.zero_add, tallyAt_apply] at hg
        by_cases h' : g = barCell (peer c) ∧ u = 0
        · exact Or.inr h'
        · rw [if_neg h'] at hg; exact absurd hg (Nat.lt_irrefl 0)
      · obtain ⟨j, -, h2, h3, h4⟩ := owedR_pos h; exact Or.inl ⟨j, h2, h3, h4⟩
    refine MayOwe.of_cut (L := L) (lev := lv) 0 (fun p hp => by rw [Finset.mem_singleton.mp hp, L_tc]; exact Finset.mem_range.2 (by show 0 < 32; decide))
      (fun g u hg => ?_) (fun p hp => by rw [Finset.mem_singleton.mp hp]; exact h0) (fun g u hg => ?_)
    · rcases hp g u hg with ⟨j, h2, rfl, rfl⟩ | ⟨rfl, rfl⟩
      · rw [L_tc]; exact Finset.mem_range.2 h2
      · rw [L_tc]; exact Finset.mem_range.2 (by decide)
    · rcases hp g u hg with ⟨j, h2, rfl, rfl⟩ | ⟨rfl, rfl⟩
      · rw [lv_recv]; omega
      · exact Nat.one_pos
  · exact mayWait_of c (.dma q) 0 (by decide) n 0 h0 (by omega)

/-! ## The state -/

section State
variable (c : Dev nD)

/-- The positions, credits and tokens of chunk `j`. -/
def sPos (j : ℕ) : sProp 𝕄 := atPos ER (sendCell c j) (j / 3) ∅ 0
/-- The position in chunk `j`'s receive cell. -/
def rPos (j : ℕ) : sProp 𝕄 := atPos ER (recvCell c j) (j / 5) ∅ 0
/-- The credit of chunk `j`'s departure. -/
def sCred (j : ℕ) : sProp 𝕄 := cred (tallyAt (sendCell c j) 0 N)
/-- The credit of chunk `j`'s arrival. -/
def rCred (j : ℕ) : sProp 𝕄 := cred (tallyAt (recvCell c j) j N)
/-- The two tokens that chunk `j`'s copy spends. -/
def toks (j : ℕ) : sProp 𝕄 := iprop(dutyTok ER (sendCell c j) (j / 3) () ∗ dutyTok ER (recvCell (peer c) j) (j / 5) ())

/-- What the slots leave of the two buffers. -/
def sRest : sProp 𝕄 := iprop(∃ f : Buf (Elt F) ((c : Thread nD τ).loc cc0_scratch0),
  (c : Thread nD τ).loc cc0_scratch0 ↦[Ring.restOf (ℓ := (c : Thread nD τ).loc cc0_scratch0) fun b : Fin 3 => (sM b.val).view.set]{fullShare} f)
/-- What lies outside the receive slots, at any contents. -/
def rRest : sProp 𝕄 := iprop(∃ f : Buf (Elt F) ((c : Thread nD τ).loc cc0_scratch1),
  (c : Thread nD τ).loc cc0_scratch1 ↦[Ring.restOf (ℓ := (c : Thread nD τ).loc cc0_scratch1) fun b : Fin 5 => (rM b.val).view.set]{fullShare} f)

/-- The state before point `t`. -/
def Mid (t : ℕ) : sProp 𝕄 := iprop(
  bigSep (Finset.Ico (min t 32) (t - 2 + 3)) (sFree c) ∗ bigSep (Finset.Ico (t - 2) (t - 2 + 3)) (sPos c)
  ∗ bigSep (Finset.Ico (min (t + 2) 32) (t - 2 + 5)) (rFree c) ∗ bigSep (Finset.Ico (t - 2) (t - 2 + 5)) (rPos c)
  ∗ bigSep (Finset.Ico t 2) (rFree (peer c))
  ∗ bigSep (Finset.Ico t 32) (toks c)
  ∗ bigSep (Finset.Ico (t - 2) 32) (rCred c) ∗ bigSep (Finset.Ico (t - 2) (min t 32)) (sCred c))

/-- Points 0 and 1 only send. -/
theorem mid_first {t : ℕ} (h : t < 2) : (Mid c t : sProp 𝕄) ⊢ iprop((sFree c t ∗ nextFree c t ∗ rFree (peer c) t ∗ toks c t) ∗ (sCred c t -∗ Mid c (t + 1))) := by
  have h2 : t - 2 = 0 := by omega
  have h2' : t + 1 - 2 = 0 := by omega
  unfold Mid
  rw [h2, h2', show min t 32 = t by omega, show min (t + 2) 32 = t + 2 by omega, show min (t + 1) 32 = t + 1 by omega,
    show min (t + 1 + 2) 32 = t + 2 + 1 by omega,
    pull (Φ := sFree c) (show t < 0 + 3 by omega), pull (Φ := rFree c) (show t + 2 < 0 + 5 by omega), pull (Φ := rFree (peer c)) h,
    pull (Φ := toks c) (show t < 32 by omega), push (Φ := sCred c) (Nat.zero_le t),
    show nextFree c t = (rFree c (t + 2) : sProp 𝕄) from if_pos (by omega)]
  iintro ⟨⟨H1, H1'⟩, H2, ⟨H3, H3'⟩, H4, ⟨H5, H5'⟩, ⟨H6, H6'⟩, H7, H8⟩
  isplitl [H1 H3 H5 H6]
  · isplitl [H1]; · iexact H1
    isplitl [H3]; · iexact H3
    isplitl [H5] <;> iassumption
  iintro Hc
  isplitl [H1']; · iexact H1'
  isplitl [H2]; · iexact H2
  isplitl [H3']; · iexact H3'
  isplitl [H4]; · iexact H4
  isplitl [H5']; · iexact H5'
  isplitl [H6']; · iexact H6'
  isplitl [H7]; · iexact H7
  isplitl [Hc] <;> iassumption

/-- What a point waits with for chunk `j`, and what it puts back when it is done with the chunk's slots. -/
def waitsFor (j : ℕ) : sProp 𝕄 := iprop(sCred c j ∗ rCred c j ∗ sPos c j ∗ rPos c j)
/-- What chunk `j` leaves behind: the next positions and the freed slots. -/
def putBack (j : ℕ) : sProp 𝕄 := iprop(sPos c (j + 3) ∗ rPos c (j + 5) ∗ sFree c (j + 3) ∗ rFree c (j + 5))

/-- Points 2 to 31 wait for chunk `j` and send chunk `j + 2`. -/
theorem mid_both {j : ℕ} (h : j + 2 < 32) :
    (Mid c (j + 2) : sProp 𝕄) ⊢ iprop(waitsFor c j ∗ (sFree c (j + 2) ∗ nextFree c (j + 2) ∗ toks c (j + 2))
      ∗ ((sCred c (j + 2) ∗ putBack c j) -∗ Mid c (j + 2 + 1))) := by
  unfold Mid waitsFor putBack
  rw [show j + 2 - 2 = j by omega, show j + 2 + 1 - 2 = j + 1 by omega, show min (j + 2) 32 = j + 2 by omega,
    show min (j + 2 + 1) 32 = j + 2 + 1 by omega,
    pull (Φ := sFree c) (show j + 2 < j + 3 by omega), none_of (Φ := sFree c) (show j + 3 ≤ j + 2 + 1 by omega),
    pull (Φ := sPos c) (show j < j + 3 by omega), pull (Φ := rPos c) (show j < j + 5 by omega),
    none_of (Φ := rFree (peer c)) (show 2 ≤ j + 2 by omega), none_of (Φ := rFree (peer c)) (show 2 ≤ j + 2 + 1 by omega),
    pull (Φ := toks c) h, pull (Φ := rCred c) (show j < 32 by omega), pull (Φ := sCred c) (show j < j + 2 by omega),
    show j + 1 + 3 = j + 3 + 1 by omega, show j + 1 + 5 = j + 5 + 1 by omega,
    push (Φ := sPos c) (show j + 1 ≤ j + 3 by omega), push (Φ := rPos c) (show j + 1 ≤ j + 5 by omega),
    push (Φ := sCred c) (show j + 1 ≤ j + 2 by omega),
    push (Φ := sFree c) (show j + 2 + 1 ≤ j + 3 by omega), none_of (Φ := sFree c) (show j + 3 ≤ j + 2 + 1 by omega)]
  have hR : (bigSep (Finset.Ico (min (j + 2 + 2) 32) (j + 5)) (rFree c) : sProp 𝕄)
      ⊢ iprop(nextFree c (j + 2) ∗ (rFree c (j + 5) -∗ bigSep (Finset.Ico (min (j + 2 + 1 + 2) 32) (j + 5 + 1)) (rFree c))) := by
    by_cases h' : j + 2 + 2 < 32
    · rw [show min (j + 2 + 2) 32 = j + 2 + 2 by omega, show min (j + 2 + 1 + 2) 32 = j + 2 + 2 + 1 by omega,
        pull (Φ := rFree c) (show j + 2 + 2 < j + 5 by omega), push (Φ := rFree c) (show j + 2 + 2 + 1 ≤ j + 5 by omega),
        show nextFree c (j + 2) = (rFree c (j + 2 + 2) : sProp 𝕄) from if_pos h']
      iintro ⟨H1, H2⟩
      isplitl [H1]; · iexact H1
      iintro H3
      isplitl [H3] <;> iassumption
    · rw [show min (j + 2 + 2) 32 = 32 by omega, show min (j + 2 + 1 + 2) 32 = 32 by omega,
        push (Φ := rFree c) (show 32 ≤ j + 5 by omega), show nextFree c (j + 2) = (iprop(emp) : sProp 𝕄) from if_neg h']
      iintro H2
      isplitr; · iempintro
      iintro H3
      isplitl [H3] <;> iassumption
  iintro ⟨⟨H1, -⟩, ⟨H2, H2'⟩, H3, ⟨H4, H4'⟩, -, ⟨H6, H6'⟩, ⟨H7, H7'⟩, ⟨H8, H8'⟩⟩
  ihave H3 := hR $$ H3
  icases H3 with ⟨H3, H3'⟩
  isplitl [H2 H4 H7 H8]
  · isplitl [H8]; · iexact H8
    isplitl [H7]; · iexact H7
    isplitl [H2] <;> iassumption
  isplitl [H1 H3 H6]
  · isplitl [H1]; · iexact H1
    isplitl [H3] <;> iassumption
  iintro ⟨Hc, Hs, Hr, Hsf, Hrf⟩
  isplitl [Hsf]
  · isplitl [Hsf]; · iexact Hsf
    iempintro
  isplitl [H2' Hs]
  · isplitl [Hs] <;> iassumption
  isplitl [H3' Hrf]
  · iapply H3'; iexact Hrf
  isplitl [H4' Hr]
  · isplitl [Hr] <;> iassumption
  isplitr; · iempintro
  isplitl [H6']; · iexact H6'
  isplitl [H7']; · iexact H7'
  isplitl [Hc] <;> iassumption

/-- Points 32 and 33 only wait. -/
theorem mid_last {j : ℕ} (h : 30 ≤ j) (h' : j < 32) :
    (Mid c (j + 2) : sProp 𝕄) ⊢ iprop(waitsFor c j ∗ (putBack c j -∗ Mid c (j + 2 + 1))) := by
  unfold Mid waitsFor putBack
  rw [show j + 2 - 2 = j by omega, show j + 2 + 1 - 2 = j + 1 by omega, show min (j + 2) 32 = 32 by omega,
    show min (j + 2 + 1) 32 = 32 by omega, show min (j + 2 + 2) 32 = 32 by omega, show min (j + 2 + 1 + 2) 32 = 32 by omega,
    pull (Φ := sPos c) (show j < j + 3 by omega), pull (Φ := rPos c) (show j < j + 5 by omega),
    none_of (Φ := rFree (peer c)) (show 2 ≤ j + 2 by omega), none_of (Φ := rFree (peer c)) (show 2 ≤ j + 2 + 1 by omega),
    none_of (Φ := toks c) (show 32 ≤ j + 2 by omega), none_of (Φ := toks c) (show 32 ≤ j + 2 + 1 by omega),
    pull (Φ := rCred c) h', pull (Φ := sCred c) h',
    show j + 1 + 3 = j + 3 + 1 by omega, show j + 1 + 5 = j + 5 + 1 by omega,
    push (Φ := sPos c) (show j + 1 ≤ j + 3 by omega), push (Φ := rPos c) (show j + 1 ≤ j + 5 by omega),
    push (Φ := sFree c) (show 32 ≤ j + 3 by omega), push (Φ := rFree c) (show 32 ≤ j + 5 by omega)]
  iintro ⟨H1, ⟨H2, H2'⟩, H3, ⟨H4, H4'⟩, -, -, ⟨H7, H7'⟩, ⟨H8, H8'⟩⟩
  isplitl [H2 H4 H7 H8]
  · isplitl [H8]; · iexact H8
    isplitl [H7]; · iexact H7
    isplitl [H2] <;> iassumption
  iintro ⟨Hs, Hr, Hsf, Hrf⟩
  isplitl [H1 Hsf]
  · isplitl [Hsf] <;> iassumption
  isplitl [H2' Hs]
  · isplitl [Hs] <;> iassumption
  isplitl [H3 Hrf]
  · isplitl [Hrf] <;> iassumption
  isplitl [H4' Hr]
  · isplitl [Hr] <;> iassumption
  isplitr; · iempintro
  isplitr; · iempintro
  isplitl [H7'] <;> iassumption

/-- What a device holds at launch: its state with its receive slots for chunks 0 and 1 still its own and none of the
    other device's, its barrier credit and position, and the token of the other device's barrier. -/
def start : sProp 𝕄 := iprop(
  cred (tallyAt (barCell c) 0 1) ∗ atPos ER (barCell c) 0 ∅ 0 ∗ dutyTok ER (barCell (peer c)) 0 ()
  ∗ bigSep (Finset.Ico 0 3) (sPos c) ∗ bigSep (Finset.Ico 0 5) (rPos c)
  ∗ bigSep (Finset.Ico 0 32) (toks c) ∗ bigSep (Finset.Ico 0 32) (rCred c))
/-- All slots, free for the first chunks. -/
def slots : sProp 𝕄 := iprop(bigSep (Finset.Ico 0 3) (sFree c) ∗ bigSep (Finset.Ico 0 5) (rFree c))

/-- The handshake exchanges the rights to the receive slots for chunks 0 and 1. -/
theorem mid_start : iprop(start c ∗ slots c) ⊢ (iprop(cred (tallyAt (barCell c) 0 1) ∗ atPos ER (barCell c) 0 ∅ 0 ∗ dutyTok ER (barCell (peer c)) 0 ()
    ∗ (rFree c 0 ∗ rFree c 1) ∗ ((rFree (peer c) 0 ∗ rFree (peer c) 1) -∗ Mid c 0)) : sProp 𝕄) := by
  unfold start slots Mid
  rw [show (0 : ℕ) - 2 = 0 from rfl, show min 0 32 = 0 from rfl, show min (0 + 2) 32 = 2 from rfl, Nat.zero_add, Nat.zero_add,
    pull (Φ := rFree c) (show 0 < 5 by decide), pull (Φ := rFree c) (show 0 + 1 < 5 by decide),
    pull (Φ := rFree (peer c)) (show 0 < 2 by decide), pull (Φ := rFree (peer c)) (show 0 + 1 < 2 by decide),
    none_of (Φ := rFree (peer c)) (show 2 ≤ 0 + 1 + 1 by decide), none_of (Φ := sCred c) (show 0 ≤ 0 by decide)]
  iintro ⟨⟨Hc, Ha, Ht, H1, H2, H3, H4⟩, H5, ⟨H6, H7, H8⟩⟩
  isplitl [Hc]; · iexact Hc
  isplitl [Ha]; · iexact Ha
  isplitl [Ht]; · iexact Ht
  isplitl [H6 H7]
  · isplitl [H6] <;> iassumption
  iintro ⟨H6, H7⟩
  isplitl [H5]; · iexact H5
  isplitl [H1]; · iexact H1
  isplitl [H8]; · iexact H8
  isplitl [H2]; · iexact H2
  isplitl [H6 H7]
  · isplitl [H6]; · iexact H6
    isplitl [H7]; · iexact H7
    iempintro
  isplitl [H3]; · iexact H3
  isplitl [H4]; · iexact H4
  iempintro

end State

end Cert.Pair

end
-- ==== Proof.Ops.lean ====
/-
# The body's operations, in groups

Each theorem runs a few consecutive operations of the body, from what they use to what they leave: the handshake, the
two waits of a chunk, the computation and the start of a copy, the sum of the two halves.
-/
module

public import proofs.«01_k».proof.Proof.State

@[expose] public section

set_option maxRecDepth 16384

noncomputable section

namespace Cert.Pair

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-- No loop variants are needed. -/
abbrev 𝒱₀ : Variants := Variants.none

/-- The weakest precondition of a body program on device `c`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

section Ops
variable (c : Dev nD) {α : Type} {Q : α → sProp (MT nD τ sig ℕ (Elt F) ℕ UU ℕ)}

/-! ## Whole blocks -/

/-- The rectangle that is the whole shape places every index at itself. -/
theorem emb_full {s : Shape} {off : Fin s.rank → ℕ} (hz : off = fun _ => 0) (inb : ∀ a, off a + s.size a ≤ s.size a) (x : s.Idx) :
    (Rect.unit (s := s) off s.size inb).emb x = x := by
  subst hz
  exact funext fun a => Fin.ext (by simp [Rect.emb, Rect.unit])

/-- A load of a whole block reads its contents. -/
theorem load_full {s : Shape} {e : EltTy} {arg : Memref sig .tc .vmem s e} {off : Fin s.rank → ℕ} (hz : off = fun _ => 0)
    {inb : ∀ a, off a + s.size a ≤ s.size a} {hl : arg.view.LoadsAt (Rect.unit (s := s) off s.size inb).toLoadRect}
    {k : (s.Idx → Elt F e) → Prog (TpuEff nD τ sig (Elt F) Λ₀ .tc) α} (X : s.Idx → Elt F e) :
    (owns (c : Thread nD τ) arg fullShare X : sProp 𝕄)
      ⊢ iprop((owns (c : Thread nD τ) arg fullShare X -∗ WP c (k X) Q)
          -∗ WP c (.op (.load arg (Rect.unit (s := s) off s.size inb).toLoadRect hl) k) Q) := by
  unfold owns
  iintro ⟨%f, %hf, H⟩ Hk
  iapply (wp_load 𝒱₀ (c : Thread nD τ) none Set.univ (m := arg) (View.setOn_subset_set _ _)) $$ H; iintro H
  have hr : arg.view.readAt (Elt F) (Rect.unit (s := s) off s.size inb).toLoadRect f = X := by
    rw [← hf]; exact funext fun x => congrArg (arg.view.read (Elt F) f) (emb_full hz inb x)
  rw [hr]
  iapply Hk
  iexists f
  isplitr; · ipureintro; exact hf
  iexact H

/-- A store of a whole block leaves what it wrote. -/
theorem store_full {s : Shape} {e : EltTy} {arg : Memref sig .tc .vmem s e} {off : Fin s.rank → ℕ} (hz : off = fun _ => 0)
    {inb : ∀ a, off a + s.size a ≤ s.size a} {w : s.Idx → Elt F e} {hx : (arg.access (Rect.unit (s := s) off s.size inb)).Stores Finset.univ}
    {hm : (Finset.univ : Finset s.Idx) = Finset.univ ∨ ∀ a, (Rect.unit (s := s) off s.size inb).stride a = 1}
    {k : PUnit → Prog (TpuEff nD τ sig (Elt F) Λ₀ .tc) α} (X : s.Idx → Elt F e) :
    (owns (c : Thread nD τ) arg fullShare X : sProp 𝕄)
      ⊢ iprop((owns (c : Thread nD τ) arg fullShare w -∗ WP c (k ⟨⟩) Q)
          -∗ WP c (.op (.store arg (Rect.unit (s := s) off s.size inb) w Finset.univ hx hm) k) Q) := by
  unfold owns
  iintro ⟨%f, %hf, H⟩ Hk
  iapply (wp_store 𝒱₀ (c : Thread nD τ) none Set.univ (m := arg) (r := Rect.unit (s := s) off s.size inb) (Mk := Finset.univ)
    ((View.setOn_subset_set _ _).trans (View.set_slice_subset ..))) $$ H; iintro H
  iapply Hk
  iexists _
  isplitr
  · ipureintro
    refine funext fun x => ?_
    have h := congrFun (View.read_write_univ (Val := Elt F) (v := arg.access (Rect.unit (s := s) off s.size inb)) f w) x
    have h' : arg.view.read (Elt F) ((arg.access (Rect.unit (s := s) off s.size inb)).write (Elt F) f w Finset.univ)
      ((Rect.unit (s := s) off s.size inb).emb x) = w x := h
    rwa [emb_full hz inb x] at h'
  iexact H

/-! ## Slots -/

/-- Reading a send slot through its squeezed view. -/
theorem read_s (j : ℕ) (f : cc0_scratch0.ty.Contents (Elt F)) :
    shapeCast S128x4096 ((sendM.access (sR j)).read (Elt F) f) shapeCasts_S1x128x4096_S128x4096 = (sM j).view.read (Elt F) f := rfl
/-- Reading a receive slot through its squeezed view. -/
theorem read_r (j : ℕ) (f : cc0_scratch1.ty.Contents (Elt F)) :
    shapeCast S128x4096 ((recvM.access (rR j)).read (Elt F) f) shapeCasts_S1x128x4096_S128x4096 = (rM j).view.read (Elt F) f := rfl
/-- The elements of a send slot, through either view. -/
theorem set_s (j : ℕ) : (sM j).view.set = (sendM.access (sR j)).set := View.set_reshape ..
/-- The elements of a receive slot, through either view. -/
theorem set_r (j : ℕ) : (rM j).view.set = (recvM.access (rR j)).set := View.set_reshape ..

/-- A load of a send slot reads the slot's chunk. -/
theorem load_s (j : ℕ) {off : Fin 3 → ℕ} (ho : off = ![j % 3, 0, 0]) {inb : ∀ a, off a + S1x128x4096.size a ≤ S3x128x4096.size a}
    {hl : sendM.view.LoadsAt (Rect.unit (s := S3x128x4096) off S1x128x4096.size inb).toLoadRect}
    {k : (S1x128x4096.Idx → Elt F .bf16) → Prog (TpuEff nD τ sig (Elt F) Λ₀ .tc) α} (X : S128x4096.Idx → Elt F .bf16) :
    (owns (c : Thread nD τ) (sM j) fullShare X : sProp 𝕄)
      ⊢ iprop((∀ v, ⌜shapeCast S128x4096 v shapeCasts_S1x128x4096_S128x4096 = X⌝ -∗ owns (c : Thread nD τ) (sM j) fullShare X -∗ WP c (k v) Q)
          -∗ WP c (.op (.load sendM (Rect.unit (s := S3x128x4096) off S1x128x4096.size inb).toLoadRect hl) k) Q) := by
  subst ho
  unfold owns
  rw [set_s]
  iintro ⟨%f, %hf, H⟩ Hk
  iapply (wp_load_rect 𝒱₀ (c : Thread nD τ) none Set.univ (m := sendM) (r := sR j) (S := (sendM.access (sR j)).set) subset_rfl) $$ H; iintro H
  iapply Hk $$ [] [H]
  · ipureintro; rw [← hf]; exact read_s j f
  iexists f
  isplitr; · ipureintro; exact hf
  iexact H

/-- A load of a receive slot reads the slot's chunk. -/
theorem load_r (j : ℕ) {off : Fin 3 → ℕ} (ho : off = ![j % 5, 0, 0]) {inb : ∀ a, off a + S1x128x4096.size a ≤ S5x128x4096.size a}
    {hl : recvM.view.LoadsAt (Rect.unit (s := S5x128x4096) off S1x128x4096.size inb).toLoadRect}
    {k : (S1x128x4096.Idx → Elt F .bf16) → Prog (TpuEff nD τ sig (Elt F) Λ₀ .tc) α} (X : S128x4096.Idx → Elt F .bf16) :
    (owns (c : Thread nD τ) (rM j) fullShare X : sProp 𝕄)
      ⊢ iprop((∀ v, ⌜shapeCast S128x4096 v shapeCasts_S1x128x4096_S128x4096 = X⌝ -∗ owns (c : Thread nD τ) (rM j) fullShare X -∗ WP c (k v) Q)
          -∗ WP c (.op (.load recvM (Rect.unit (s := S5x128x4096) off S1x128x4096.size inb).toLoadRect hl) k) Q) := by
  subst ho
  unfold owns
  rw [set_r]
  iintro ⟨%f, %hf, H⟩ Hk
  iapply (wp_load_rect 𝒱₀ (c : Thread nD τ) none Set.univ (m := recvM) (r := rR j) (S := (recvM.access (rR j)).set) subset_rfl) $$ H; iintro H
  iapply Hk $$ [] [H]
  · ipureintro; rw [← hf]; exact read_r j f
  iexists f
  isplitr; · ipureintro; exact hf
  iexact H

/-- A store to a send slot, after a load whose result is not used, leaves the chunk it wrote. -/
theorem fill_s (j : ℕ) {off : Fin 3 → ℕ} (ho : off = ![j % 3, 0, 0]) {inb : ∀ a, off a + S1x128x4096.size a ≤ S3x128x4096.size a}
    {hl : sendM.view.LoadsAt (Rect.unit (s := S3x128x4096) off S1x128x4096.size inb).toLoadRect}
    {w : S1x128x4096.Idx → Elt F .bf16} {hx : (sendM.access (Rect.unit (s := S3x128x4096) off S1x128x4096.size inb)).Stores Finset.univ}
    {hm : (Finset.univ : Finset S1x128x4096.Idx) = Finset.univ ∨ ∀ a, (Rect.unit (s := S3x128x4096) off S1x128x4096.size inb).stride a = 1}
    {k : PUnit → Prog (TpuEff nD τ sig (Elt F) Λ₀ .tc) α} :
    (sAny c j : sProp 𝕄)
      ⊢ iprop((owns (c : Thread nD τ) (sM j) fullShare (shapeCast S128x4096 w shapeCasts_S1x128x4096_S128x4096) -∗ WP c (k ⟨⟩) Q)
          -∗ WP c (.op (.load sendM (Rect.unit (s := S3x128x4096) off S1x128x4096.size inb).toLoadRect hl) fun _ =>
                .op (.store sendM (Rect.unit (s := S3x128x4096) off S1x128x4096.size inb) w Finset.univ hx hm) k) Q) := by
  subst ho
  unfold owns sAny
  rw [set_s]
  iintro ⟨%f, H⟩ Hk
  iapply (wp_load_rect 𝒱₀ (c : Thread nD τ) none Set.univ (m := sendM) (r := sR j) (S := (sendM.access (sR j)).set) subset_rfl) $$ H; iintro H
  iapply (wp_store 𝒱₀ (c : Thread nD τ) none Set.univ (m := sendM) (r := sR j) (Mk := Finset.univ) (S := (sendM.access (sR j)).set)
    (View.setOn_subset_set _ _)) $$ H; iintro H
  iapply Hk
  iexists _
  isplitr
  · ipureintro
    rw [← read_s]
    exact congrArg (fun v => shapeCast S128x4096 v shapeCasts_S1x128x4096_S128x4096) (View.read_write_univ (Val := Elt F) (v := sendM.access (sR j)) f w)
  iexact H

end Ops

end Cert.Pair

end
-- ==== Proof.Steps.lean ====
/-
# The body's steps

The handshake, the two waits of a chunk, the computation and start of a copy, and the sum, each from the state's pieces to
the state's pieces.
-/
module

public import proofs.«01_k».proof.Proof.Ops

@[expose] public section

set_option maxRecDepth 16384

noncomputable section

namespace Cert.Pair

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

section Steps
variable (K : Dev nD × Fin 9 → ℕ) (c : Dev nD) {α : Type} {Q : α → sProp (MT nD τ sig ℕ (Elt F) ℕ UU ℕ)}

/-- The barrier's round is its only one: once it is waited for, the cell closes. -/
theorem close_bar : iprop(records m K ∗ atPos ER (barCell c) (0 + 1) ∅ 0) ⊢ (|={Set.univ}=> semVal (barCell c) 0 : sProp 𝕄) := by
  iintro ⟨#HR, Ha⟩
  iapply (Rounds.cell_close ER (Rd m) (Set.mem_univ (K (c, 0))) (fun h => h) (R := 0 + 1) (duties_bar_later m c))
  isplitr; · iapply (inv_b m K c); iexact HR
  iexact Ha

/-- The handshake: signal the other device, giving it the rights to this device's receive slots for chunks 0 and 1; wait
    for its signal and get the same rights to its slots. -/
theorem handshake (n : Dev nD) (hn : n = peer c) {a b : ℕ} (ha : a = 1) (hb : b = 1) (W : Waits sig ℕ)
    {k : PUnit → Prog (TpuEff nD τ sig (Elt F) Λ₀ .tc) α} :
    iprop(records m K ∗ levAts L lv ∗ start c ∗ slots c ∗ owes (c : Thread nD τ) (owedAt c 0) W)
      ⊢ iprop((∀ W', owes (c : Thread nD τ) (owedR c 0) W' -∗ semVal (barCell c) 0 -∗ Mid c 0 -∗ WP c (k ⟨⟩) Q)
          -∗ WP c (.op (.semSignal (Dev.tc n : Thread nD τ) barS a) fun _ => .op (.semWait barS b) k) Q) := by
  subst hn ha hb
  iintro ⟨#HR, #Hlev, Hst, Hsl, HO⟩ Hk
  ihave H := (mid_start c) $$ [Hst Hsl]
  · isplitl [Hst] <;> iassumption
  icases H with ⟨Hc, Ha, Ht, Hgive, Hmid⟩
  iapply (Rounds.wp_signal 𝒱₀ ER (Rd m) (c : Thread nD τ) none (dst := (peer c : Thread nD τ)) (κ := K (peer c, 0))
      (d := ()) (by rw [duties_bar]; exact Finset.mem_univ _) (amount_bar m (peer c) 0 ()) 0 (owedR c 0) (if_pos rfl))
    $$ [HO Ht Hgive]
  · isplitr; · iapply (inv_b m K (peer c)); iexact HR
    isplitl [HO]; · iexact HO
    isplitl [Ht]; · iexact Ht
    isplitl [Hgive]
    · rw [payload_bar]; unfold barPay; rw [peer_peer]; iexact Hgive
    iapply (reached_b m K (peer c)); iexact HR
  iintro HO
  iapply (Rounds.wp_wait_rest_token 𝒱₀ ER (Rd m) (c : Thread nD τ) none (κ := K (c, 0))
      (wpE_semWait_eq 𝒱₀ (c : Thread nD τ) none Set.univ) (Set.mem_univ _) 0 (O := owedR c 0) (W := W) (R := 0) (m := 0) (T := ∅)
      (by rw [expect_bar])) $$ [Hc HO Ha]
  · isplitr; · iapply (inv_b m K c); iexact HR
    isplitl [Hc]; · iexact Hc
    isplitl [HO]; · iexact HO
    isplitr; · iapply (mayWait_of c (.reg barS) 0 (by decide) 0 1 (le_refl 1) (by decide)); iexact Hlev
    iexact Ha
  iintro ⟨HO, Ha, -, Hpay⟩
  ihave Hp := (Entails.of_eq (rest_bar m c)) $$ Hpay
  unfold barPay
  imod (close_bar m K c) $$ [Ha] with Hz
  · isplitr; · iexact HR
    iexact Ha
  iapply Hk $$ HO Hz
  iapply Hmid; iexact Hp

/-- The two waits of chunk `j`: its departure gives the send slot back, its arrival gives the receive slot holding the
    other device's chunk, and the right to the receive slot after next. -/
theorem waits {j n : ℕ} (hj : j < 32) (hn : j < n) {s₁ s₂ : DmaSem sig} (h₁ : s₁ = sSem j) (h₂ : s₂ = rSem j)
    {src₁ : Memref sig .tc .vmem S128x4096 .bf16} {dst₁ : Memref sig .tc .vmem S128x4096 .bf16} {hs₁ : src₁.view.WordExact} {hd₁ : dst₁.view.WordExact}
    {src₂ : Memref sig .tc .vmem S128x4096 .bf16} {dst₂ : Memref sig .tc .vmem S128x4096 .bf16} {hs₂ : src₂.view.WordExact} {hd₂ : dst₂.view.WordExact}
    (hN₁ : dst₁.view.dmaCredit = N) (hN₂ : dst₂.view.dmaCredit = N) (W : Waits sig ℕ)
    {k : PUnit → Prog (TpuEff nD τ sig (Elt F) Λ₀ .tc) α} :
    iprop(records m K ∗ levAts L lv ∗ waitsFor c j ∗ owes (c : Thread nD τ) (owedR c n) W)
      ⊢ iprop((∀ W', owes (c : Thread nD τ) (owedR c n) W' -∗ sendPay m c j -∗ recvPay m c j
              -∗ (sPos c (j + 3) ∗ rPos c (j + 5) ∗ reached ER (sendCell c (j + 3)) ((j + 3) / 3) ∗ reached ER (recvCell c (j + 5)) ((j + 5) / 5))
              -∗ WP c (k ⟨⟩) Q)
          -∗ WP c (.op (.waitDma2 s₁ src₁ dst₁ hs₁ hd₁) fun _ => .op (.waitDma2 s₂ src₂ dst₂ hs₂ hd₂) k) Q) := by
  subst h₁ h₂
  unfold waitsFor sCred rCred sPos rPos
  rw [show sendCell c (j + 3) = sendCell c j from congrArg (fun q : DmaSem sig => (((c : Thread nD τ), SemLoc.dma q) : GSem nD τ sig)) (sSem_congr (by omega)),
    show recvCell c (j + 5) = recvCell c j from congrArg (fun q : DmaSem sig => (((c : Thread nD τ), SemLoc.dma q) : GSem nD τ sig)) (rSem_congr (by omega)),
    show (j + 3) / 3 = j / 3 + 1 by omega, show (j + 5) / 5 = j / 5 + 1 by omega]
  iintro ⟨#HR, #Hlev, ⟨Hcs, Hcr, Has, Har⟩, HO⟩ Hk
  iapply (Rounds.wp_wait_rest_token 𝒱₀ ER (Rd m) (c : Thread nD τ) none (κ := K (c, sIx j))
      (wpE_waitDma2_eq 𝒱₀ (c : Thread nD τ) none Set.univ) (Set.mem_univ _) 0 (O := owedR c n) (W := W) (R := j / 3) (m := 0) (T := ∅)
      (by rw [Nat.zero_add, hN₁]; exact (expect_send m c j hj).symm)) $$ [Hcs HO Has]
  · isplitr; · iapply (inv_s m K c j); iexact HR
    isplitl [Hcs]; · rw [hN₁]; iexact Hcs
    isplitl [HO]; · iexact HO
    isplitr; · iapply (mayWait_of c (.dma (sSem j)) 0 (by decide) n 0 (le_of_eq (lv_send c j 0)) (by omega)); iexact Hlev
    iexact Has
  iintro ⟨HO, Has, Hrs, Hpay⟩
  ihave Hps := (Entails.of_eq (rest_send m c j hj)) $$ Hpay
  iapply (Rounds.wp_wait_rest_token 𝒱₀ ER (Rd m) (c : Thread nD τ) none (κ := K (c, rIx j))
      (wpE_waitDma2_eq 𝒱₀ (c : Thread nD τ) none Set.univ) (Set.mem_univ _) j (O := owedR c n) (R := j / 5) (m := 0) (T := ∅)
      (by rw [Nat.zero_add, hN₂]; exact (expect_recv m c j hj).symm)) $$ [Hcr HO Har]
  · isplitr; · iapply (inv_r m K c j); iexact HR
    isplitl [Hcr]; · rw [hN₂]; iexact Hcr
    isplitl [HO]; · iexact HO
    isplitr; · iapply (mayWait_of c (.dma (rSem j)) j hj n (2 + j) (le_of_eq (lv_recv c j j)) (by omega)); iexact Hlev
    iexact Har
  iintro ⟨HO, Har, Hrr, Hpay⟩
  ihave Hpr := (Entails.of_eq (rest_recv m c j hj)) $$ Hpay
  iapply Hk $$ HO Hps Hpr
  isplitl [Has]; · iexact Has
  isplitl [Har]; · iexact Har
  isplitl [Hrs] <;> iassumption

/-- The start of chunk `t`'s copy, once the chunk is in its send slot. -/
theorem copy {t : ℕ} (ht : t < 32) (n : Dev nD) (hn : n = peer c) {s r : DmaSem sig} (hs : s = sSem t) (hr : r = rSem t)
    {src dst : Memref sig .tc .vmem S128x4096 .bf16} (hsrc : src = sM t) (hdst : dst = rM t)
    {hw₁ : src.view.WordExact} {hw₂ : dst.view.WordExact} {hsc : dst.view.ref.isScScratch = false}
    {hty : DmaTarget.Typed .vmem (.dma r) (.remote (Dev.tc n : Thread nD τ) dst (.dma s) hsc)} (W : Waits sig ℕ)
    {k : PUnit → Prog (TpuEff nD τ sig (Elt F) Λ₀ .tc) α} :
    iprop(records m K ∗ owns (c : Thread nD τ) (sM t) fullShare (part m c t) ∗ reached ER (sendCell c t) (t / 3)
        ∗ nextFree c t ∗ rFree (peer c) t ∗ toks c t ∗ owes (c : Thread nD τ) (owedR c t) W)
      ⊢ iprop((sCred c t -∗ owes (c : Thread nD τ) (owedR c (t + 1)) W -∗ WP c (k ⟨⟩) Q)
          -∗ WP c (.op (.enqueueDma src (.remote (Dev.tc n : Thread nD τ) dst (.dma s) hsc) (.dma r) hw₁ hw₂ hty) k) Q) := by
  subst hn hs hr hsrc hdst
  unfold rFree rAny toks sCred
  rw [owns]
  iintro ⟨#HR, ⟨%fs, %hfs, Hsrc⟩, Hrs, Hnext, ⟨⟨%fd, Hdst⟩, Hrr⟩, ⟨Hts, Htr⟩, HO⟩ Hk
  iapply (Rounds.wp_send_pointsTo_with 𝒱₀ ER (Rd m) (c : Thread nD τ) none (κ₁ := K (c, sIx t)) (κ₂ := K (peer c, rIx t))
      (r₁ := t / 3) (r₂ := t / 5) (d₁ := ()) (d₂ := ()) (fs := fs) (fd := fd) (F := nextFree c t)
      (by rw [duties_send m c t ht]; exact Finset.mem_univ _) (by rw [duties_recv m (peer c) t ht]; exact Finset.mem_univ _)
      t 0 N rfl (amount_send m c t _ ()) (amount_recv m (peer c) t _ ()) (owedR c (t + 1)) (owedR_pull c ht) (W := W)
      (by
        rw [payload_send]; unfold sendPay owns
        iintro H; iexists fs; isplitr; · ipureintro; exact hfs
        iexact H)
      (by
        rw [payload_recv]; unfold recvPay owns; rw [peer_peer]
        iintro ⟨H, HF⟩
        isplitl [H]
        · iexists _; isplitr
          · ipureintro; exact (View.read_write_univ (Val := Elt F) (v := (rM t).view) fd _).trans hfs
          iexact H
        iexact HF)) $$ [Hsrc Hdst Hnext HO Hts Hrs Htr Hrr]
  · isplitr; · iapply (inv_s m K c t); iexact HR
    isplitr; · iapply (inv_r m K (peer c) t); iexact HR
    isplitl [Hsrc]; · iexact Hsrc
    isplitl [Hdst Hnext]
    · isplitl [Hdst] <;> iassumption
    isplitl [HO]; · iexact HO
    isplitl [Hts]; · iexact Hts
    isplitl [Hrs]; · iexact Hrs
    isplitl [Htr] <;> iassumption
  iintro ⟨Hc, HO⟩
  iapply Hk $$ Hc HO

/-- The offset written `![0, 0]` is zero on both axes. -/
theorem two_zero : (![0, 0] : Fin 2 → ℕ) = fun _ => 0 := funext fun a => by fin_cases a <;> rfl

/-- Chunk `t` computed, stored and its copy started. -/
theorem compute {t : ℕ} (ht : t < 32) (n : Dev nD) (hn : n = peer c) {s r : DmaSem sig} (hs : s = sSem t) (hr : r = rSem t)
    {arg1 : Memref sig .tc .vmem S128x2048 .bf16} {arg2 : Memref sig .tc .vmem S2048x4096 .bf16}
    {off : Fin 3 → ℕ} (ho : off = ![t % 3, 0, 0]) {inb : ∀ a, off a + S1x128x4096.size a ≤ S3x128x4096.size a}
    {i1 : ∀ a, (![0, 0] : Fin 2 → ℕ) a + S128x2048.size a ≤ S128x2048.size a} {i2 : ∀ a, (![0, 0] : Fin 2 → ℕ) a + S2048x4096.size a ≤ S2048x4096.size a}
    {l1 : arg1.view.LoadsAt (Rect.unit (s := S128x2048) ![0, 0] S128x2048.size i1).toLoadRect}
    {l2 : arg2.view.LoadsAt (Rect.unit (s := S2048x4096) ![0, 0] S2048x4096.size i2).toLoadRect}
    {hl : sendM.view.LoadsAt (Rect.unit (s := S3x128x4096) off S1x128x4096.size inb).toLoadRect}
    {hx : (sendM.access (Rect.unit (s := S3x128x4096) off S1x128x4096.size inb)).Stores Finset.univ}
    {hm : (Finset.univ : Finset S1x128x4096.Idx) = Finset.univ ∨ ∀ a, (Rect.unit (s := S3x128x4096) off S1x128x4096.size inb).stride a = 1}
    {src dst : Memref sig .tc .vmem S128x4096 .bf16} (hsrc : src = sM t) (hdst : dst = rM t)
    {hw₁ : src.view.WordExact} {hw₂ : dst.view.WordExact} {hsc : dst.view.ref.isScScratch = false}
    {hty : DmaTarget.Typed .vmem (.dma r) (.remote (Dev.tc n : Thread nD τ) dst (.dma s) hsc)} (W : Waits sig ℕ)
    {k : PUnit → Prog (TpuEff nD τ sig (Elt F) Λ₀ .tc) α} :
    iprop(records m K ∗ (sFree c t ∗ nextFree c t ∗ rFree (peer c) t ∗ toks c t) ∗ owes (c : Thread nD τ) (owedR c t) W
        ∗ owns (c : Thread nD τ) arg1 fullShare (iblk m c 0 (pt t)) ∗ owns (c : Thread nD τ) arg2 fullShare (iblk m c 1 (pt t)))
      ⊢ iprop((sCred c t -∗ owes (c : Thread nD τ) (owedR c (t + 1)) W
              -∗ owns (c : Thread nD τ) arg1 fullShare (iblk m c 0 (pt t)) -∗ owns (c : Thread nD τ) arg2 fullShare (iblk m c 1 (pt t)) -∗ WP c (k ⟨⟩) Q)
          -∗ WP c (.op (.load arg1 (Rect.unit (s := S128x2048) ![0, 0] S128x2048.size i1).toLoadRect l1) fun v19 =>
              .op (.load arg2 (Rect.unit (s := S2048x4096) ![0, 0] S2048x4096.size i2).toLoadRect l2) fun v21 =>
              .op (.load sendM (Rect.unit (s := S3x128x4096) off S1x128x4096.size inb).toLoadRect hl) fun _ =>
              .op (.store sendM (Rect.unit (s := S3x128x4096) off S1x128x4096.size inb) (k0_pay2 v19 v21) Finset.univ hx hm) fun _ =>
              .op (.enqueueDma src (.remote (Dev.tc n : Thread nD τ) dst (.dma s) hsc) (.dma r) hw₁ hw₂ hty) k) Q) := by
  iintro ⟨#HR, ⟨Hsf, Hnext, Hrf, Htk⟩, HO, H1, H2⟩ Hk
  unfold sFree
  icases Hsf with ⟨Hsa, Hrs⟩
  iapply (load_full c two_zero (iblk m c 0 (pt t))) $$ H1; iintro H1
  iapply (load_full c two_zero (iblk m c 1 (pt t))) $$ H2; iintro H2
  iapply (fill_s c t ho) $$ Hsa; iintro Hs
  iapply (copy m K c ht n hn hs hr hsrc hdst W) $$ [Hs Hrs Hnext Hrf Htk HO]
  · isplitr; · iexact HR
    isplitl [Hs]; · iexact Hs
    isplitl [Hrs]; · iexact Hrs
    isplitl [Hnext]; · iexact Hnext
    isplitl [Hrf]; · iexact Hrf
    isplitl [Htk] <;> iassumption
  iintro Hc HO
  iapply Hk $$ Hc HO H1 H2

/-- The sum of the two devices' chunks `j`. -/
def outv (c : Dev nD) (j : ℕ) : S128x4096.Idx → Elt F .bf16 := addf (part m c j) (part m (peer c) j)

/-- Chunk `j` of the result: the two slots added into the output block. Both slots are free again. -/
theorem sum {j : ℕ} {arg3 : Memref sig .tc .vmem S128x4096 .bf16}
    {oa : Fin 3 → ℕ} (ha : oa = ![j % 3, 0, 0]) {ia : ∀ a, oa a + S1x128x4096.size a ≤ S3x128x4096.size a}
    {ob : Fin 3 → ℕ} (hb : ob = ![j % 5, 0, 0]) {ib : ∀ a, ob a + S1x128x4096.size a ≤ S5x128x4096.size a}
    {i3 : ∀ a, (![0, 0] : Fin 2 → ℕ) a + S128x4096.size a ≤ S128x4096.size a}
    {la : sendM.view.LoadsAt (Rect.unit (s := S3x128x4096) oa S1x128x4096.size ia).toLoadRect}
    {lb : recvM.view.LoadsAt (Rect.unit (s := S5x128x4096) ob S1x128x4096.size ib).toLoadRect}
    {l3 : arg3.view.LoadsAt (Rect.unit (s := S128x4096) ![0, 0] S128x4096.size i3).toLoadRect}
    {hx : (arg3.access (Rect.unit (s := S128x4096) ![0, 0] S128x4096.size i3)).Stores Finset.univ}
    {hm : (Finset.univ : Finset S128x4096.Idx) = Finset.univ ∨ ∀ a, (Rect.unit (s := S128x4096) ![0, 0] S128x4096.size i3).stride a = 1}
    {X : S128x4096.Idx → Elt F .bf16} {k : PUnit → Prog (TpuEff nD τ sig (Elt F) Λ₀ .tc) α} :
    iprop(sendPay m c j ∗ owns (c : Thread nD τ) (rM j) fullShare (part m (peer c) j) ∗ owns (c : Thread nD τ) arg3 fullShare X
        ∗ (sPos c (j + 3) ∗ rPos c (j + 5) ∗ reached ER (sendCell c (j + 3)) ((j + 3) / 3) ∗ reached ER (recvCell c (j + 5)) ((j + 5) / 5)))
      ⊢ iprop((putBack c j -∗ owns (c : Thread nD τ) arg3 fullShare (outv m c j) -∗ WP c (k ⟨⟩) Q)
          -∗ WP c (.op (.load sendM (Rect.unit (s := S3x128x4096) oa S1x128x4096.size ia).toLoadRect la) fun v31 =>
              .op (.load recvM (Rect.unit (s := S5x128x4096) ob S1x128x4096.size ib).toLoadRect lb) fun v44 =>
              .op (.load arg3 (Rect.unit (s := S128x4096) ![0, 0] S128x4096.size i3).toLoadRect l3) fun _ =>
              .op (.store arg3 (Rect.unit (s := S128x4096) ![0, 0] S128x4096.size i3) (k0_pay1 v31 v44) Finset.univ hx hm) k) Q) := by
  unfold sendPay putBack sFree rFree
  iintro ⟨Hs, Hr, Ho, Hsp, Hrp, Hsr, Hrr⟩ Hk
  iapply (load_s c j ha (part m c j)) $$ Hs; iintro %v31 %h31 Hs
  iapply (load_r c j hb (part m (peer c) j)) $$ Hr; iintro %v44 %h44 Hr
  iapply (load_full c two_zero X) $$ Ho; iintro Ho
  iapply (store_full c two_zero X) $$ Ho; iintro Ho
  have hv : k0_pay1 (F := F) v31 v44 = outv m c j := by unfold outv; rw [← h31, ← h44]; rfl
  rw [hv]
  iapply Hk $$ [Hs Hr Hsp Hrp Hsr Hrr] Ho
  isplitl [Hsp]; · iexact Hsp
  isplitl [Hrp]; · iexact Hrp
  isplitl [Hs Hsr]
  · isplitl [Hs]
    · unfold sAny owns; rw [sM_congr (show (j + 3) % 3 = j % 3 by omega)]
      icases Hs with ⟨%f, -, H⟩; iexists f; iexact H
    iexact Hsr
  isplitl [Hr]
  · unfold rAny owns; rw [rM_congr (show (j + 5) % 5 = j % 5 by omega)]
    icases Hr with ⟨%f, -, H⟩; iexists f; iexact H
  iexact Hrr

end Steps

end Cert.Pair

end
-- ==== Proof.Body.lean ====
/-
# The body at each kind of point

Point 0 shakes hands and sends; point 1 sends; points 2 to 31 wait, send and add; points 32 and 33 wait and add.
-/
module

public import proofs.«01_k».proof.Proof.Steps

@[expose] public section

set_option maxRecDepth 16384
set_option maxHeartbeats 2000000

noncomputable section

namespace Cert.Pair

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-- A slot named through other offsets has a slot's credit. -/
theorem credit_s_of {j : ℕ} {off : Fin 3 → ℕ} (h : off = ![j % 3, 0, 0]) (inb) (hs) :
    ((sendM.slice (Rect.unit (s := S3x128x4096) off S1x128x4096.size inb) hs).squeeze S128x4096 squeezes_S1x128x4096_S128x4096
      : Memref sig .tc .vmem S128x4096 .bf16).view.dmaCredit = N := by rw [sM_of h]
/-- A receive slot's copy credit, at an offset equal to the slot's. -/
theorem credit_r_of {j : ℕ} {off : Fin 3 → ℕ} (h : off = ![j % 5, 0, 0]) (inb) (hs) :
    ((recvM.slice (Rect.unit (s := S5x128x4096) off S1x128x4096.size inb) hs).squeeze S128x4096 squeezes_S1x128x4096_S128x4096
      : Memref sig .tc .vmem S128x4096 .bf16).view.dmaCredit = N := by rw [rM_of h]

section Points
variable (K : Dev nD × Fin 9 → ℕ) (c : Dev nD) {Q : PUnit → sProp (MT nD τ sig ℕ (Elt F) ℕ UU ℕ)} (i : grid0.Coords)
  {arg1 : Memref sig .tc .vmem S128x2048 .bf16} (harg1 : arg1.IsWhole) {arg2 : Memref sig .tc .vmem S2048x4096 .bf16} (harg2 : arg2.IsWhole)
  {arg3 : Memref sig .tc .vmem S128x4096 .bf16} (harg3 : arg3.IsWhole) (W : Waits sig ℕ)

/-- The body at coordinate `i`, on the blocks `arg1`, `arg2`, `arg3`. -/
abbrev theBody : Prog (TpuEff nD τ sig (Elt F) Λ₀ .tc) PUnit :=
  cc0_body i arg1 harg1 arg2 harg2 arg3 harg3 sendM (Memref.isWhole_whole _) recvM (Memref.isWhole_whole _) cc0_scratch2 cc0_scratch3

/-- Chunk `t`'s two input blocks. -/
def blocks (t : ℕ) (a1 : Memref sig .tc .vmem S128x2048 .bf16) (a2 : Memref sig .tc .vmem S2048x4096 .bf16) : sProp 𝕄 :=
  iprop(owns (c : Thread nD τ) a1 fullShare (iblk m c 0 (pt t)) ∗ owns (c : Thread nD τ) a2 fullShare (iblk m c 1 (pt t)))

/-- Point 0. -/
theorem body_zero (hi : (i 0).val = 0) :
    iprop(records m K ∗ levAts L lv ∗ start c ∗ slots c ∗ owes (c : Thread nD τ) (owedAt c 0) W ∗ blocks m c 0 arg1 arg2)
      ⊢ iprop((∀ W', owes (c : Thread nD τ) (owedR c 1) W' -∗ semVal (barCell c) 0 -∗ Mid c 1 -∗ blocks m c 0 arg1 arg2 -∗ Q ⟨⟩)
          -∗ WP c (theBody i harg1 harg2 harg3) Q) := by
  have h1 : k0_cond1 i = 1#1 := (cond1_iff i).2 hi
  have h2 : ¬ k0_cond2 i = 1#1 := fun h => by have := (cond2_iff i).1 h; omega
  have h3 : k0_cond3 i = 1#1 := (cond3_iff i).2 (by omega)
  have h4 : ¬ k0_cond4 i = 1#1 := fun h => by have := (cond4_iff i).1 h; omega
  unfold theBody WP blocks
  simp only [cc0_body_eq_skeleton]; unfold cc0_body_skel
  simp only [dif_pos h1, dif_neg h2, dif_pos h3, dif_neg h4, k0_part2_eq_skeleton]; unfold k0_part2_skel
  simp only [semSignalWord, semWaitWord, Prog.lift, Prog.bind_op, Prog.bind_ret, Prog.pure_eq_ret, wp_deviceId]
  iintro ⟨#HR, #Hlev, Hst, Hsl, HO, H1, H2⟩ Hk
  iapply (handshake m K c _ (dev1_eq i c h1) rfl rfl W) $$ [Hst Hsl HO]
  · isplitr; · iexact HR
    isplitr; · iexact Hlev
    isplitl [Hst]; · iexact Hst
    isplitl [Hsl] <;> iassumption
  iintro %W' HO Hz Hm
  ihave Hm := (mid_first c (show 0 < 2 by decide)) $$ Hm
  icases Hm with ⟨Hres, Hm⟩
  iapply (compute m K c (t := 0) (by decide) _ (dev2_eq i c h3) (sSem_of (by rw [off6_eq, hi]) _) (rSem_of (by rw [off7_eq, hi]) _)
    (by rw [off5_eq, hi]) (sM_of (by rw [off9_eq, hi]) _ _) (rM_of (by rw [off8_eq, hi]) _ _) W') $$ [Hres HO H1 H2]
  · isplitr; · iexact HR
    isplitl [Hres]; · iexact Hres
    isplitl [HO]; · iexact HO
    isplitl [H1] <;> iassumption
  iintro Hc HO H1 H2
  unfold WP; rw [wp_ret]; imodintro
  iapply Hk $$ HO Hz [Hm Hc] [H1 H2]
  · iapply Hm; iexact Hc
  isplitl [H1] <;> iassumption

/-- Point 1. -/
theorem body_one (hi : (i 0).val = 1) :
    iprop(records m K ∗ Mid c 1 ∗ owes (c : Thread nD τ) (owedR c 1) W ∗ blocks m c 1 arg1 arg2)
      ⊢ iprop((∀ W', owes (c : Thread nD τ) (owedR c 2) W' -∗ Mid c 2 -∗ blocks m c 1 arg1 arg2 -∗ Q ⟨⟩)
          -∗ WP c (theBody i harg1 harg2 harg3) Q) := by
  have h1 : ¬ k0_cond1 i = 1#1 := fun h => by have := (cond1_iff i).1 h; omega
  have h2 : ¬ k0_cond2 i = 1#1 := fun h => by have := (cond2_iff i).1 h; omega
  have h3 : k0_cond3 i = 1#1 := (cond3_iff i).2 (by omega)
  have h4 : ¬ k0_cond4 i = 1#1 := fun h => by have := (cond4_iff i).1 h; omega
  unfold theBody WP blocks
  simp only [cc0_body_eq_skeleton]; unfold cc0_body_skel
  simp only [dif_neg h1, dif_neg h2, dif_pos h3, dif_neg h4, k0_part2_eq_skeleton]; unfold k0_part2_skel
  simp only [Prog.lift, Prog.bind_op, Prog.bind_ret, Prog.pure_eq_ret, wp_deviceId]
  iintro ⟨#HR, Hm, HO, H1, H2⟩ Hk
  ihave Hm := (mid_first c (show 1 < 2 by decide)) $$ Hm
  icases Hm with ⟨Hres, Hm⟩
  iapply (compute m K c (t := 1) (by decide) _ (dev2_eq i c h3) (sSem_of (by rw [off6_eq, hi]) _) (rSem_of (by rw [off7_eq, hi]) _)
    (by rw [off5_eq, hi]) (sM_of (by rw [off9_eq, hi]) _ _) (rM_of (by rw [off8_eq, hi]) _ _) W) $$ [Hres HO H1 H2]
  · isplitr; · iexact HR
    isplitl [Hres]; · iexact Hres
    isplitl [HO]; · iexact HO
    isplitl [H1] <;> iassumption
  iintro Hc HO H1 H2
  unfold WP; rw [wp_ret]; imodintro
  iapply Hk $$ HO [Hm Hc] [H1 H2]
  · iapply Hm; iexact Hc
  isplitl [H1] <;> iassumption

/-- Points 2 to 31. -/
theorem body_both {j : ℕ} (hj : j + 2 < 32) (hi : (i 0).val = j + 2) (X : S128x4096.Idx → Elt F .bf16) :
    iprop(records m K ∗ levAts L lv ∗ Mid c (j + 2) ∗ owes (c : Thread nD τ) (owedR c (j + 2)) W ∗ blocks m c (j + 2) arg1 arg2
        ∗ owns (c : Thread nD τ) arg3 fullShare X)
      ⊢ iprop((∀ W', owes (c : Thread nD τ) (owedR c (j + 2 + 1)) W' -∗ Mid c (j + 2 + 1) -∗ blocks m c (j + 2) arg1 arg2
              -∗ owns (c : Thread nD τ) arg3 fullShare (outv m c j) -∗ Q ⟨⟩)
          -∗ WP c (theBody i harg1 harg2 harg3) Q) := by
  have h1 : ¬ k0_cond1 i = 1#1 := fun h => by have := (cond1_iff i).1 h; omega
  have h2 : k0_cond2 i = 1#1 := (cond2_iff i).2 (by omega)
  have h3 : k0_cond3 i = 1#1 := (cond3_iff i).2 (by omega)
  have h4 : k0_cond4 i = 1#1 := (cond4_iff i).2 (by omega)
  have hle : 2 ≤ (i 0).val := by omega
  have hsub : (i 0).val - 2 = j := by omega
  unfold theBody WP blocks
  simp only [cc0_body_eq_skeleton]; unfold cc0_body_skel
  simp only [dif_neg h1, dif_pos h2, dif_pos h3, dif_pos h4, k0_part1_eq_skeleton, k0_part2_eq_skeleton]; unfold k0_part2_skel k0_part1_skel
  simp only [Prog.lift, Prog.bind_op, Prog.bind_ret, Prog.pure_eq_ret, wp_deviceId]
  iintro ⟨#HR, #Hlev, Hm, HO, ⟨H1, H2⟩, H3⟩ Hk
  ihave Hm := (mid_both c hj) $$ Hm
  icases Hm with ⟨Hw, ⟨Hsf, Hnext, Htk⟩, Hm⟩
  iapply (waits m K c (j := j) (n := j + 2) (by omega) (by omega) (sSem_of (by rw [off1_eq i hle, hsub]) _) (rSem_of (by rw [off4_eq i hle, hsub]) _)
    (credit_s_of (by rw [off2_eq i hle, hsub]) _ _) (credit_r_of (by rw [off3_eq i hle, hsub]) _ _) W) $$ [Hw HO]
  · isplitr; · iexact HR
    isplitr; · iexact Hlev
    isplitl [Hw] <;> iassumption
  iintro %W' HO Hps Hpr Hpos
  unfold recvPay
  icases Hpr with ⟨Hpr, Hrf⟩
  ihave Hrf := (Entails.of_eq (show nextFree (peer c) j = (rFree (peer c) (j + 2) : sProp 𝕄) from if_pos hj)) $$ Hrf
  iapply (compute m K c (t := j + 2) hj _ (dev2_eq i c h3) (sSem_of (by rw [off6_eq, hi]) _) (rSem_of (by rw [off7_eq, hi]) _)
    (by rw [off5_eq, hi]) (sM_of (by rw [off9_eq, hi]) _ _) (rM_of (by rw [off8_eq, hi]) _ _) W') $$ [Hsf Hnext Hrf Htk HO H1 H2]
  · isplitr; · iexact HR
    isplitl [Hsf Hnext Hrf Htk]
    · isplitl [Hsf]; · iexact Hsf
      isplitl [Hnext]; · iexact Hnext
      isplitl [Hrf] <;> iassumption
    isplitl [HO]; · iexact HO
    isplitl [H1] <;> iassumption
  iintro Hc HO H1 H2
  iapply (sum m c (j := j) (by rw [off10_eq i hle, hsub]) (by rw [off11_eq i hle, hsub])) $$ [Hps Hpr H3 Hpos]
  · isplitl [Hps]; · iexact Hps
    isplitl [Hpr]; · iexact Hpr
    isplitl [H3] <;> iassumption
  iintro Hback H3
  unfold WP; rw [wp_ret]; imodintro
  iapply Hk $$ HO [Hm Hc Hback] [H1 H2] H3
  · iapply Hm; isplitl [Hc] <;> iassumption
  isplitl [H1] <;> iassumption

/-- Points 32 and 33. -/
theorem body_last {j : ℕ} (hj : 30 ≤ j) (hj' : j < 32) (hi : (i 0).val = j + 2) (X : S128x4096.Idx → Elt F .bf16) :
    iprop(records m K ∗ levAts L lv ∗ Mid c (j + 2) ∗ owes (c : Thread nD τ) (owedR c (j + 2)) W ∗ owns (c : Thread nD τ) arg3 fullShare X)
      ⊢ iprop((∀ W', owes (c : Thread nD τ) (owedR c (j + 2 + 1)) W' -∗ Mid c (j + 2 + 1)
              -∗ owns (c : Thread nD τ) arg3 fullShare (outv m c j) -∗ Q ⟨⟩)
          -∗ WP c (theBody i harg1 harg2 harg3) Q) := by
  have h1 : ¬ k0_cond1 i = 1#1 := fun h => by have := (cond1_iff i).1 h; omega
  have h2 : k0_cond2 i = 1#1 := (cond2_iff i).2 (by omega)
  have h3 : ¬ k0_cond3 i = 1#1 := fun h => by have := (cond3_iff i).1 h; omega
  have h4 : k0_cond4 i = 1#1 := (cond4_iff i).2 (by omega)
  have hle : 2 ≤ (i 0).val := by omega
  have hsub : (i 0).val - 2 = j := by omega
  unfold theBody WP
  simp only [cc0_body_eq_skeleton]; unfold cc0_body_skel
  simp only [dif_neg h1, dif_pos h2, dif_neg h3, dif_pos h4, k0_part1_eq_skeleton]; unfold k0_part1_skel
  simp only [Prog.lift, Prog.bind_op, Prog.bind_ret, Prog.pure_eq_ret, wp_deviceId]
  rw [owedR_done c (show 32 ≤ j + 2 + 1 by omega), ← owedR_done c (show 32 ≤ j + 2 by omega)]
  iintro ⟨#HR, #Hlev, Hm, HO, H3⟩ Hk
  ihave Hm := (mid_last c hj hj') $$ Hm
  icases Hm with ⟨Hw, Hm⟩
  iapply (waits m K c (j := j) (n := j + 2) (by omega) (by omega) (sSem_of (by rw [off1_eq i hle, hsub]) _) (rSem_of (by rw [off4_eq i hle, hsub]) _)
    (credit_s_of (by rw [off2_eq i hle, hsub]) _ _) (credit_r_of (by rw [off3_eq i hle, hsub]) _ _) W) $$ [Hw HO]
  · isplitr; · iexact HR
    isplitr; · iexact Hlev
    isplitl [Hw] <;> iassumption
  iintro %W' HO Hps Hpr Hpos
  unfold recvPay
  icases Hpr with ⟨Hpr, -⟩
  iapply (sum m c (j := j) (by rw [off10_eq i hle, hsub]) (by rw [off11_eq i hle, hsub])) $$ [Hps Hpr H3 Hpos]
  · isplitl [Hps]; · iexact Hps
    isplitl [Hpr]; · iexact Hpr
    isplitl [H3] <;> iassumption
  iintro Hback H3
  unfold WP; rw [wp_ret]; imodintro
  iapply Hk $$ HO [Hm Hback] H3
  iapply Hm; iexact Hback

end Points

end Cert.Pair

end
-- ==== Proof.Oblig.lean ====
/-
# The proof data and the body's obligation
-/
module

public import proofs.«01_k».proof.Proof.Body

@[expose] public section

set_option maxRecDepth 16384
set_option maxHeartbeats 2000000

noncomputable section

namespace Cert.Pair

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## The end -/

/-- What a device is left with: every cell closed at zero, every slot its own. -/
def done (c : Dev nD) : sProp 𝕄 := iprop(semVal (barCell c) 0
  ∗ (bigSep (Finset.Ico 32 35) fun j => semVal (sendCell c j) 0) ∗ (bigSep (Finset.Ico 32 37) fun j => semVal (recvCell c j) 0)
  ∗ bigSep (Finset.Ico 32 35) (sFree c) ∗ bigSep (Finset.Ico 32 37) (rFree c))

section Close
variable (K : Dev nD × Fin 9 → ℕ) (c : Dev nD)

/-- A send cell past its last chunk has no duty left: its counter reads zero. -/
theorem close_send {j : ℕ} (h : 32 ≤ j) : iprop(records m K ∗ sPos c j) ⊢ (|={Set.univ}=> semVal (sendCell c j) 0 : sProp 𝕄) := by
  unfold sPos
  iintro ⟨#HR, Ha⟩
  iapply (Rounds.cell_close ER (Rd m) (Set.mem_univ (K (c, sIx j))) (fun h => h) (R := j / 3) (duties_send_later m c j h))
  isplitr; · iapply (inv_s m K c j); iexact HR
  iexact Ha
/-- A receive cell past its last chunk has no duty left: its counter reads zero. -/
theorem close_recv {j : ℕ} (h : 32 ≤ j) : iprop(records m K ∗ rPos c j) ⊢ (|={Set.univ}=> semVal (recvCell c j) 0 : sProp 𝕄) := by
  unfold rPos
  iintro ⟨#HR, Ha⟩
  iapply (Rounds.cell_close ER (Rd m) (Set.mem_univ (K (c, rIx j))) (fun h => h) (R := j / 5) (duties_recv_later m c j h))
  isplitr; · iapply (inv_r m K c j); iexact HR
  iexact Ha

omit [FloatOps F] in
/-- A persistent fact serves every member of a family. -/
theorem with_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- After the last point the cells have no rounds left and close. -/
theorem close_all : iprop(records m K ∗ semVal (barCell c) 0 ∗ Mid c 34) ⊢ (|={Set.univ}=> done c : sProp 𝕄) := by
  have hS : iprop(records m K ∗ bigSep (Finset.Ico 32 35) (sPos c))
      ⊢ (|={Set.univ}=> bigSep (Finset.Ico 32 35) fun j => semVal (sendCell c j) 0 : sProp 𝕄) :=
    (with_each fun j hj => close_send m K c (Finset.mem_Ico.1 hj).1).trans (bigSep_fupd _ _)
  have hV : iprop(records m K ∗ bigSep (Finset.Ico 32 37) (rPos c))
      ⊢ (|={Set.univ}=> bigSep (Finset.Ico 32 37) fun j => semVal (recvCell c j) 0 : sProp 𝕄) :=
    (with_each fun j hj => close_recv m K c (Finset.mem_Ico.1 hj).1).trans (bigSep_fupd _ _)
  unfold Mid done
  rw [show min 34 32 = 32 from rfl, show min (34 + 2) 32 = 32 from rfl, show 34 - 2 + 3 = 35 from rfl, show 34 - 2 + 5 = 37 from rfl, show 34 - 2 = 32 from rfl]
  iintro ⟨#HR, Hb, H1, H2, H3, H4, -⟩
  imod hS $$ [H2] with H2
  · isplitr; · iexact HR
    iexact H2
  imod hV $$ [H4] with H4
  · isplitr; · iexact HR
    iexact H4
  imodintro
  isplitl [Hb]; · iexact Hb
  isplitl [H2]; · iexact H2
  isplitl [H4]; · iexact H4
  isplitl [H1] <;> iassumption

end Close

/-! ## The proof data -/

/-- Before the first point. -/
def first (c : Dev nD) : sProp 𝕄 := iprop(∃ K, records m K ∗ levAts L lv ∗ start c ∗ slots c)
/-- Before point `n`, in between. -/
def running (c : Dev nD) (n : ℕ) : sProp 𝕄 := iprop(∃ K, records m K ∗ levAts L lv ∗ semVal (barCell c) 0 ∗ Mid c n)

/-- The invariant before point `n`. -/
def Inv (c : Dev nD) (n : ℕ) : sProp 𝕄 := iprop((sRest c ∗ rRest c) ∗ (if n = 0 then first m c else if n < 34 then running m c n else done c))

/-- What a device holds at point 0. -/
theorem inv_first (c : Dev nD) : Inv m c 0 = iprop((sRest c ∗ rRest c) ∗ first m c) := by unfold Inv; rw [if_pos rfl]
/-- What a device holds before points 1 to 33. -/
theorem inv_running (c : Dev nD) {n : ℕ} (h : n ≠ 0) (h' : n < 34) : Inv m c n = iprop((sRest c ∗ rRest c) ∗ running m c n) := by
  unfold Inv; rw [if_neg h, if_pos h']
/-- What a device holds after the last point. -/
theorem inv_done (c : Dev nD) {n : ℕ} (h : 34 ≤ n) : Inv m c n = iprop((sRest c ∗ rRest c) ∗ done c) := by
  unfold Inv; rw [if_neg (by omega), if_neg (by omega)]

/-- The arrays as launched, what the body leaves in each block, and what the device holds and owes between points. -/
def dats (_ : Fin 1) (c : Dev nD) : Dat τ (Elt F) ℕ ℕ UU ℕ cfg0 c where
  A w := V m c (Pipeline.arrRef spec0 w)
  after w t := match w with
    | ⟨0, _⟩ => iblk m c 0 t
    | ⟨1, _⟩ => iblk m c 1 t
    | ⟨2, _⟩ => outv m c (t.val - 2)
  Φ t := Inv m c t.val
  q _ := fullShare
  owed t := owedAt c t.val

/-- An input window's staging buffer holds the window's block at every point. -/
theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
/-- The right operand's block is in place before every point. -/
theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl

/-- The point numbered by a point's own number is that point. -/
theorem pt_val (t : Fin cfg0.N) : pt t.val = t :=
  Fin.ext (Nat.mod_eq_of_lt (t.isLt.trans_eq (show cfg0.N = 34 from N_0)))

/-- The output window is not written back after the first two points. -/
theorem no_flush : ∀ t : Fin cfg0.N, t.val < 2 → (cfg0.win 2).flush t = false := by decide +kernel

/-- What a point leaves of the output block. -/
def outLeft (c : Dev nD) (t : Fin cfg0.N) : sProp 𝕄 :=
  match cfg0.idle 2 (cfg0.grid.coords t) with
  | true => match (cfg0.win 2).flush t with
    | false => iprop(∃ d, owns (c : Thread nD τ) (st0_2 t) fullShare ((dats m 0 c).before 2 t d))
    | true => owns (c : Thread nD τ) (st0_2 t) fullShare ((dats m 0 c).after 2 t)
  | false => owns (c : Thread nD τ) (st0_2 t) fullShare ((dats m 0 c).after 2 t)

/-- At the first two points the output block is left as it was found. -/
theorem outLeft_early (c : Dev nD) (t : Fin cfg0.N) (h : t.val < 2) :
    outLeft m c t = iprop(∃ d, owns (c : Thread nD τ) (st0_2 t) fullShare ((dats m 0 c).before 2 t d)) := by
  unfold outLeft
  rw [show cfg0.idle 2 (cfg0.grid.coords t) = true from by
    show (!(k0_cond4 (grid0.coords t) == 1#1)) = true
    rw [Bool.not_eq_true', beq_eq_false_iff_ne]
    intro hc; have := (cond4_iff _).1 hc; rw [coord] at this; omega, no_flush t h]
/-- From point 2 on the output block is left holding chunk `t - 2` of the result. -/
theorem outLeft_later (c : Dev nD) (t : Fin cfg0.N) (h : 2 ≤ t.val) :
    outLeft m c t = owns (c : Thread nD τ) (st0_2 t) fullShare (outv m c (t.val - 2)) := by
  unfold outLeft
  rw [show cfg0.idle 2 (cfg0.grid.coords t) = false from by
    show (!(k0_cond4 (grid0.coords t) == 1#1)) = false
    rw [Bool.not_eq_false', beq_iff_eq]
    exact (cond4_iff _).2 (by rw [coord]; exact h)]
  rfl

/-! ## The obligation -/

section Points
variable (c : Dev nD) (t : Fin cfg0.N)

/-- What the body hands back at point `t`. -/
def back : sProp 𝕄 := iprop(Inv m c (t.val + 1) ∗ (∃ W, owes (c : Thread nD τ) (owedAt c (t.val + 1)) W)
  ∗ blocks m c t.val (st0_0 t) (st0_1 t) ∗ outLeft m c t)
/-- What it is given. -/
def given : sProp 𝕄 := iprop(Inv m c t.val ∗ (∃ W, owes (c : Thread nD τ) (owedAt c t.val) W)
  ∗ blocks m c t.val (st0_0 t) (st0_1 t) ∗ ∃ d, owns (c : Thread nD τ) (st0_2 t) fullShare ((dats m 0 c).before 2 t d))

/-- After point 0 the barrier signal is paid: only arrivals are owed. -/
theorem owedAt_pos {n : ℕ} (h : n ≠ 0) : owedAt c n = owedR c n := if_neg h

/-- The body's obligation at point 0. -/
theorem point_zero (h : t.val = 0) : given m c t ⊢ WP c (bodyAt0 t) fun _ => back m c t := by
  unfold given back
  rw [h, inv_first, inv_running m c (show 0 + 1 ≠ 0 by decide) (by decide), outLeft_early m c t (by omega), owedAt_pos c (show 0 + 1 ≠ 0 by decide)]
  unfold first running
  iintro ⟨⟨Hrest, ⟨%K, #HR, #Hlev, Hst, Hsl⟩⟩, ⟨%W, HO⟩, Hb, Hout⟩
  iapply (body_zero m K c (grid0.coords t) (hstage0_0 ((cfg0.slots t 0).cast nbuf0_0)) (hstage0_1 ((cfg0.slots t 1).cast nbuf0_1))
    (hstage0_2 ((cfg0.slots t 2).cast nbuf0_2)) W (by rw [coord, h])) $$ [Hst Hsl HO Hb]
  · isplitr; · iexact HR
    isplitr; · iexact Hlev
    isplitl [Hst]; · iexact Hst
    isplitl [Hsl]; · iexact Hsl
    isplitl [HO]; · iexact HO
    iexact Hb
  iintro %W' HO Hz Hm Hb
  isplitl [Hrest Hz Hm]
  · isplitl [Hrest]; · iexact Hrest
    iexists K
    isplitr; · iexact HR
    isplitr; · iexact Hlev
    isplitl [Hz] <;> iassumption
  isplitl [HO]; · iexists W'; iexact HO
  isplitl [Hb]; · iexact Hb
  iexact Hout

/-- The body's obligation at point 1. -/
theorem point_one (h : t.val = 1) : given m c t ⊢ WP c (bodyAt0 t) fun _ => back m c t := by
  unfold given back
  rw [h, inv_running m c (show 1 ≠ 0 by decide) (by decide), inv_running m c (show 1 + 1 ≠ 0 by decide) (by decide), outLeft_early m c t (by omega),
    owedAt_pos c (show 1 ≠ 0 by decide), owedAt_pos c (show 1 + 1 ≠ 0 by decide)]
  unfold running
  iintro ⟨⟨Hrest, ⟨%K, #HR, #Hlev, Hz, Hm⟩⟩, ⟨%W, HO⟩, Hb, Hout⟩
  iapply (body_one m K c (grid0.coords t) (hstage0_0 ((cfg0.slots t 0).cast nbuf0_0)) (hstage0_1 ((cfg0.slots t 1).cast nbuf0_1))
    (hstage0_2 ((cfg0.slots t 2).cast nbuf0_2)) W (by rw [coord, h])) $$ [Hm HO Hb]
  · isplitr; · iexact HR
    isplitl [Hm]; · iexact Hm
    isplitl [HO]; · iexact HO
    iexact Hb
  iintro %W' HO Hm Hb
  isplitl [Hrest Hz Hm]
  · isplitl [Hrest]; · iexact Hrest
    iexists K
    isplitr; · iexact HR
    isplitr; · iexact Hlev
    isplitl [Hz] <;> iassumption
  isplitl [HO]; · iexists W'; iexact HO
  isplitl [Hb]; · iexact Hb
  iexact Hout

/-- The body's obligation at points 2 to 31. -/
theorem point_both {j : ℕ} (hj : j + 2 < 32) (h : t.val = j + 2) : given m c t ⊢ WP c (bodyAt0 t) fun _ => back m c t := by
  unfold given back
  rw [outLeft_later m c t (by omega), h, inv_running m c (show j + 2 ≠ 0 by omega) (by omega), inv_running m c (show j + 2 + 1 ≠ 0 by omega) (by omega),
    owedAt_pos c (show j + 2 ≠ 0 by omega), owedAt_pos c (show j + 2 + 1 ≠ 0 by omega), Nat.add_sub_cancel]
  unfold running
  iintro ⟨⟨Hrest, ⟨%K, #HR, #Hlev, Hz, Hm⟩⟩, ⟨%W, HO⟩, Hb, ⟨%d, Hout⟩⟩
  iapply (body_both m K c (grid0.coords t) (hstage0_0 ((cfg0.slots t 0).cast nbuf0_0)) (hstage0_1 ((cfg0.slots t 1).cast nbuf0_1))
    (hstage0_2 ((cfg0.slots t 2).cast nbuf0_2)) W hj (by rw [coord, h]) _) $$ [Hm HO Hb Hout]
  · isplitr; · iexact HR
    isplitr; · iexact Hlev
    isplitl [Hm]; · iexact Hm
    isplitl [HO]; · iexact HO
    isplitl [Hb]; · iexact Hb
    iexact Hout
  iintro %W' HO Hm Hb Hout
  isplitl [Hrest Hz Hm]
  · isplitl [Hrest]; · iexact Hrest
    iexists K
    isplitr; · iexact HR
    isplitr; · iexact Hlev
    isplitl [Hz] <;> iassumption
  isplitl [HO]; · iexists W'; iexact HO
  isplitl [Hb]; · iexact Hb
  iexact Hout

/-- The body's obligation at points 32 and 33. -/
theorem point_last {j : ℕ} (hj : 30 ≤ j) (hj' : j < 32) (h : t.val = j + 2) : given m c t ⊢ WP c (bodyAt0 t) fun _ => back m c t := by
  have hinv (K : Dev nD × Fin 9 → ℕ) : iprop(records m K ∗ levAts L lv ∗ semVal (barCell c) 0 ∗ Mid c (j + 2 + 1))
      ⊢ (|={Set.univ}=> if j + 2 + 1 < 34 then running m c (j + 2 + 1) else done c : sProp 𝕄) := by
    by_cases hlt : j + 2 + 1 < 34
    · rw [if_pos hlt]; unfold running
      iintro ⟨HR, Hlev, Hz, Hm⟩
      imodintro; iexists K
      isplitl [HR]; · iexact HR
      isplitl [Hlev]; · iexact Hlev
      isplitl [Hz] <;> iassumption
    · rw [if_neg hlt, show j + 2 + 1 = 34 by omega]
      iintro ⟨#HR, -, Hz, Hm⟩
      iapply (close_all m K c)
      isplitr; · iexact HR
      isplitl [Hz] <;> iassumption
  refine BIBase.Entails.trans ?_ (wp_fupd _ _ _ _ _)
  unfold given back
  rw [outLeft_later m c t (by omega), h, inv_running m c (show j + 2 ≠ 0 by omega) (by omega),
    owedAt_pos c (show j + 2 ≠ 0 by omega), owedAt_pos c (show j + 2 + 1 ≠ 0 by omega), Nat.add_sub_cancel]
  unfold running Inv
  rw [if_neg (show ¬ (j + 2 + 1 = 0) by omega)]
  iintro ⟨⟨Hrest, ⟨%K, #HR, #Hlev, Hz, Hm⟩⟩, ⟨%W, HO⟩, Hb, ⟨%d, Hout⟩⟩
  iapply (body_last m K c (grid0.coords t) (hstage0_0 ((cfg0.slots t 0).cast nbuf0_0)) (hstage0_1 ((cfg0.slots t 1).cast nbuf0_1))
    (hstage0_2 ((cfg0.slots t 2).cast nbuf0_2)) W hj hj' (by rw [coord, h]) _) $$ [Hm HO Hout]
  · isplitr; · iexact HR
    isplitr; · iexact Hlev
    isplitl [Hm]; · iexact Hm
    isplitl [HO]; · iexact HO
    iexact Hout
  iintro %W' HO Hm Hout
  imod (hinv K) $$ [Hz Hm] with Hinv
  · isplitr; · iexact HR
    isplitr; · iexact Hlev
    isplitl [Hz] <;> iassumption
  imodintro
  isplitl [Hrest Hinv]
  · isplitl [Hrest]; · iexact Hrest
    iexact Hinv
  isplitl [HO]; · iexists W'; iexact HO
  isplitl [Hb]; · iexact Hb
  iexact Hout

/-- The body's obligation at every point. -/
theorem point : given m c t ⊢ WP c (bodyAt0 t) fun _ => back m c t := by
  have hN : t.val < 34 := t.isLt.trans_eq (show cfg0.N = 34 from N_0)
  rcases Nat.lt_or_ge t.val 2 with h | h
  · rcases Nat.lt_or_ge t.val 1 with h' | h'
    · exact point_zero m c t (by omega)
    · exact point_one m c t (by omega)
  · rcases Nat.lt_or_ge t.val 32 with h' | h'
    · exact point_both m c t (j := t.val - 2) (by omega) (by omega)
    · exact point_last m c t (j := t.val - 2) (by omega) (by omega) (by omega)

end Points

/-- The body's obligation at every point. -/
theorem body_obligation (c : Dev nD) : BodyObligation (dats (F := F) m 0 c) (defs₀ (F := F)) 𝒱₀ 0 Set.univ := fun t => by
  rw [bigSep_W0, bigSep_W0]
  show iprop(Inv m c t.val ∗ Pipeline.owesWithin c (owedAt c t.val) ((dats m 0 c).bound 0 t.castSucc)
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d)))
    ⊢ WP c (bodyAt0 t) fun _ => iprop(Inv m c (t.val + 1) ∗ Pipeline.owesWithin c (owedAt c (t.val + 1)) ((dats m 0 c).bound 0 t.succ)
      ∗ owns (c : Thread nD τ) (st0_0 t) fullShare (iblk m c 0 t) ∗ owns (c : Thread nD τ) (st0_1 t) fullShare (iblk m c 1 t) ∗ outLeft m c t)
  have hpost : back m c t ⊢ iprop(Inv m c (t.val + 1) ∗ Pipeline.owesWithin c (owedAt c (t.val + 1)) ((dats m 0 c).bound 0 t.succ)
      ∗ owns (c : Thread nD τ) (st0_0 t) fullShare (iblk m c 0 t) ∗ owns (c : Thread nD τ) (st0_1 t) fullShare (iblk m c 1 t) ∗ outLeft m c t) := by
    unfold back blocks
    rw [pt_val]
    iintro ⟨H1, ⟨%W, H2⟩, ⟨H3, H4⟩, H5⟩
    isplitl [H1]; · iexact H1
    isplitl [H2]
    · iexists W; isplitr; · ipureintro; exact fun _ _ => Or.inl trivial
      iexact H2
    isplitl [H3]; · iexact H3
    isplitl [H4] <;> iassumption
  refine BIBase.Entails.trans ?_ ((point m c t).trans (wp_mono _ _ _ fun _ => hpost))
  unfold given blocks
  rw [pt_val]
  simp only [before_0, before_1]
  iintro ⟨H1, ⟨%W, -, H2⟩, ⟨%d0, H3⟩, ⟨%d1, H4⟩, H5⟩
  isplitl [H1]; · iexact H1
  isplitl [H2]; · iexists W; iexact H2
  isplitl [H3 H4]
  · isplitl [H3] <;> iassumption
  iexact H5

end Cert.Pair

end
-- ==== Proof.Run.lean ====
/-
# The launch and the run
-/
module

public import proofs.«01_k».proof.Proof.Oblig
public import Idealize.ShloMosaic.Lib.ReshapeSlab
public import Idealize.ShloMosaic.Lib.Pipeline.CollectiveSegs

@[expose] public section

set_option maxRecDepth 16384
set_option maxHeartbeats 2000000

noncomputable section

namespace Cert.Pair

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The buffers as slots -/

section Slots
variable (c : Dev nD)

omit [FloatOps F] in
/-- A family over the first `n` naturals, indexed either way. -/
theorem fin_ico (n : ℕ) (Φ : ℕ → sProp 𝕄) : (bigSep Finset.univ fun b : Fin n => Φ b.val) = bigSep (Finset.Ico 0 n) Φ := by
  rw [show Finset.Ico 0 n = (Finset.univ : Finset (Fin n)).map Fin.valEmbedding from Finset.ext fun x => by
    rw [Finset.mem_Ico, Finset.mem_map]
    exact ⟨fun h => ⟨⟨x, h.2⟩, Finset.mem_univ _, rfl⟩, fun ⟨b, _, h⟩ => ⟨Nat.zero_le _, h ▸ b.isLt⟩⟩, bigSep_map]
  rfl

omit [FloatOps F] in
/-- A product over three consecutive numbers, written out. -/
theorem three (a : ℕ) (Φ : ℕ → sProp 𝕄) : bigSep (Finset.Ico a (a + 3)) Φ = iprop(Φ a ∗ Φ (a + 1) ∗ Φ (a + 1 + 1) ∗ emp) := by
  rw [pull (by omega), pull (by omega), pull (by omega), none_of (by omega)]
omit [FloatOps F] in
/-- A product over five consecutive numbers, written out. -/
theorem five (a : ℕ) (Φ : ℕ → sProp 𝕄) :
    bigSep (Finset.Ico a (a + 5)) Φ = iprop(Φ a ∗ Φ (a + 1) ∗ Φ (a + 1 + 1) ∗ Φ (a + 1 + 1 + 1) ∗ Φ (a + 1 + 1 + 1 + 1) ∗ emp) := by
  rw [pull (by omega), pull (by omega), pull (by omega), pull (by omega), pull (by omega), none_of (by omega)]

/-- Different send slots are disjoint. -/
theorem sM_disjoint (b b' : Fin 3) (h : b ≠ b') : Disjoint (sM b.val).view.set (sM b'.val).view.set := by
  rw [set_s, set_s]
  refine View.disjoint_slice_of_sep _ (sR b.val) (sR b'.val) 0 rfl rfl ?_
  have hv : b.val ≠ b'.val := fun hh => h (Fin.ext hh)
  have := b.isLt; have := b'.isLt
  show b.val % 3 + 1 ≤ b'.val % 3 ∨ b'.val % 3 + 1 ≤ b.val % 3
  omega
/-- Different receive slots are disjoint. -/
theorem rM_disjoint (b b' : Fin 5) (h : b ≠ b') : Disjoint (rM b.val).view.set (rM b'.val).view.set := by
  rw [set_r, set_r]
  refine View.disjoint_slice_of_sep _ (rR b.val) (rR b'.val) 0 rfl rfl ?_
  have hv : b.val ≠ b'.val := fun hh => h (Fin.ext hh)
  have := b.isLt; have := b'.isLt
  show b.val % 5 + 1 ≤ b'.val % 5 ∨ b'.val % 5 + 1 ≤ b.val % 5
  omega

/-- The two buffers whole. -/
def sWhole : sProp 𝕄 := iprop(∃ f : Buf (Elt F) ((c : Thread nD τ).loc cc0_scratch0), (c : Thread nD τ).loc cc0_scratch0 ↦{fullShare} f)
/-- The whole receive buffer, at any contents. -/
def rWhole : sProp 𝕄 := iprop(∃ f : Buf (Elt F) ((c : Thread nD τ).loc cc0_scratch1), (c : Thread nD τ).loc cc0_scratch1 ↦{fullShare} f)

omit [FloatOps F] in
/-- The send buffer splits into its three slots and the rest. -/
theorem sWhole_split : (sWhole c : sProp 𝕄) ⊢ iprop(bigSep (Finset.Ico 0 3) (sAny c) ∗ sRest c) := by
  have h := Ring.fam_split_ex (Ix := ℕ) (Name := ℕ) (U := UU) (Lvl := ℕ) (Val := Elt F) (ℓ := (c : Thread nD τ).loc cc0_scratch0)
    (fun b : Fin 3 => (sM b.val).view.set) sM_disjoint (q := fullShare)
  unfold sWhole sRest
  rw [← fin_ico]; exact h
omit [FloatOps F] in
/-- The receive buffer splits into its five slots and the rest. -/
theorem rWhole_split : (rWhole c : sProp 𝕄) ⊢ iprop(bigSep (Finset.Ico 0 5) (rAny c) ∗ rRest c) := by
  have h := Ring.fam_split_ex (Ix := ℕ) (Name := ℕ) (U := UU) (Lvl := ℕ) (Val := Elt F) (ℓ := (c : Thread nD τ).loc cc0_scratch1)
    (fun b : Fin 5 => (rM b.val).view.set) rM_disjoint (q := fullShare)
  unfold rWhole rRest
  rw [← fin_ico]; exact h

include m in
/-- The three send slots and the rest make up the send buffer again. -/
theorem sWhole_join : iprop(bigSep (Finset.Ico 0 3) (sAny c) ∗ sRest c) ⊢ (sWhole c : sProp 𝕄) := by
  have h := Ring.fam_join (Ix := ℕ) (Name := ℕ) (U := UU) (Lvl := ℕ) (Val := Elt F) (ℓ := (c : Thread nD τ).loc cc0_scratch0)
    (fun b : Fin 3 => (sM b.val).view.set) sM_disjoint (q := fullShare) (m _)
  unfold sWhole sRest
  rw [← fin_ico]; exact h
include m in
/-- The five receive slots and the rest make up the receive buffer again. -/
theorem rWhole_join : iprop(bigSep (Finset.Ico 0 5) (rAny c) ∗ rRest c) ⊢ (rWhole c : sProp 𝕄) := by
  have h := Ring.fam_join (Ix := ℕ) (Name := ℕ) (U := UU) (Lvl := ℕ) (Val := Elt F) (ℓ := (c : Thread nD τ).loc cc0_scratch1)
    (fun b : Fin 5 => (rM b.val).view.set) rM_disjoint (q := fullShare) (m _)
  unfold rWhole rRest
  rw [← fin_ico]; exact h

omit [FloatOps F] in
/-- Chunks three apart use the same send slot. -/
theorem sAny_congr {j k : ℕ} (h : j % 3 = k % 3) : (sAny c j : sProp 𝕄) = sAny c k := by unfold sAny; rw [sM_congr h]
omit [FloatOps F] in
/-- Chunks five apart use the same receive slot. -/
theorem rAny_congr {j k : ℕ} (h : j % 5 = k % 5) : (rAny c j : sProp 𝕄) = rAny c k := by unfold rAny; rw [rM_congr h]

omit [FloatOps F] in
/-- The slots left at the end are the buffer's slots. -/
theorem sFree_all : (bigSep (Finset.Ico 32 35) (sFree c) : sProp 𝕄) ⊢ bigSep (Finset.Ico 0 3) (sAny c) := by
  rw [three 32, three 0]
  unfold sFree
  rw [sAny_congr c (show 32 % 3 = (0 + 1 + 1) % 3 from rfl), sAny_congr c (show (32 + 1) % 3 = 0 % 3 from rfl), sAny_congr c (show (32 + 1 + 1) % 3 = (0 + 1) % 3 from rfl)]
  iintro ⟨⟨H2, -⟩, ⟨H0, -⟩, ⟨H1, -⟩, -⟩
  isplitl [H0]; · iexact H0
  isplitl [H1]; · iexact H1
  isplitl [H2]; · iexact H2
  iempintro
omit [FloatOps F] in
/-- The receive slots of chunks 32 to 36 are the five slots. -/
theorem rFree_all : (bigSep (Finset.Ico 32 37) (rFree c) : sProp 𝕄) ⊢ bigSep (Finset.Ico 0 5) (rAny c) := by
  rw [five 32, five 0]
  unfold rFree
  rw [rAny_congr c (show 32 % 5 = (0 + 1 + 1) % 5 from rfl), rAny_congr c (show (32 + 1) % 5 = (0 + 1 + 1 + 1) % 5 from rfl),
    rAny_congr c (show (32 + 1 + 1) % 5 = (0 + 1 + 1 + 1 + 1) % 5 from rfl), rAny_congr c (show (32 + 1 + 1 + 1) % 5 = 0 % 5 from rfl),
    rAny_congr c (show (32 + 1 + 1 + 1 + 1) % 5 = (0 + 1) % 5 from rfl)]
  iintro ⟨⟨H2, -⟩, ⟨H3, -⟩, ⟨H4, -⟩, ⟨H0, -⟩, ⟨H1, -⟩, -⟩
  isplitl [H0]; · iexact H0
  isplitl [H1]; · iexact H1
  isplitl [H2]; · iexact H2
  isplitl [H3]; · iexact H3
  isplitl [H4]; · iexact H4
  iempintro

/-- At launch every slot is free for its first chunk. -/
theorem slots_intro (K : Dev nD × Fin 9 → ℕ) : iprop(records m K ∗ bigSep (Finset.Ico 0 3) (sAny c) ∗ bigSep (Finset.Ico 0 5) (rAny c)) ⊢ slots c := by
  have hs : iprop(records m K ∗ bigSep (Finset.Ico 0 3) (sAny c)) ⊢ bigSep (Finset.Ico 0 3) (sFree c) := with_each fun j hj => by
    unfold sFree
    rw [Nat.div_eq_of_lt (Finset.mem_Ico.1 hj).2]
    iintro ⟨HR, H⟩
    isplitl [H]; · iexact H
    iapply (reached_s m K c j); iexact HR
  have hr : iprop(records m K ∗ bigSep (Finset.Ico 0 5) (rAny c)) ⊢ bigSep (Finset.Ico 0 5) (rFree c) := with_each fun j hj => by
    unfold rFree
    rw [Nat.div_eq_of_lt (Finset.mem_Ico.1 hj).2]
    iintro ⟨HR, H⟩
    isplitl [H]; · iexact H
    iapply (reached_r m K c j); iexact HR
  unfold slots
  iintro ⟨#HR, H1, H2⟩
  isplitl [H1]
  · iapply hs; isplitr; · iexact HR
    iexact H1
  · iapply hr; isplitr; · iexact HR
    iexact H2

end Slots

/-! ## The launch -/

/-- The kernel's own semaphores. -/
abbrev osem (k : Fin 8) : SemLoc sig := csem k.succ

/-- The kernel's own semaphores are apart from the pipeline's. -/
theorem ownSemFacts : Pipeline.OwnSemFacts cfg0.spec osem := by decide

/-- Every window's array is held whole. -/
theorem share_eq (c : Dev nD) (w : Fin cfg0.W) : (dats m 0 c).share w = fullShare := by unfold Dat.share; split <;> rfl

/-- The nine semaphores of a device are different. -/
theorem csem_injective : Function.Injective csem := by decide
/-- Different pairs of a device and a semaphore are different cells. -/
theorem kcell_injective : Function.Injective (kcell : Dev nD × Fin 9 → GSem nD τ sig) := fun a b h =>
  Prod.ext (congrArg (fun g : GSem nD τ sig => g.1.1) h) (csem_injective (congrArg Prod.snd h))
/-- All cells of all devices. -/
def ringCells : Finset (GSem nD τ sig) := Finset.univ.map ⟨kcell, kcell_injective⟩

/-- The duty tokens minted: per device and chunk one of its barrier, one of its send cell and one of its receive cell. -/
abbrev tokOf (x : Dev nD × Fin 3 × Fin 32) : GSem nD τ sig × ℕ × Unit := match x.2.1 with
  | 0 => (barCell x.1, x.2.2.val, ())
  | 1 => (sendCell x.1 x.2.2.val, x.2.2.val / 3, ())
  | 2 => (recvCell x.1 x.2.2.val, x.2.2.val / 5, ())

/-- Different duties have different tokens. -/
theorem tokOf_injective : Function.Injective tokOf := by
  rintro ⟨c, k, j⟩ ⟨c', k', j'⟩ h
  have h1 : c = c' := by
    have := congrArg (fun x : GSem nD τ sig × ℕ × Unit => x.1.1.1) h
    fin_cases k <;> fin_cases k' <;> exact this
  subst h1
  have h2 := congrArg (fun x : GSem nD τ sig × ℕ × Unit => x.1.2) h
  have h3 := congrArg (fun x : GSem nD τ sig × ℕ × Unit => x.2.1) h
  have key : k = k' ∧ j = j' := by
    fin_cases k <;> fin_cases k' <;> dsimp only at h2 h3
    · exact ⟨rfl, Fin.ext h3⟩
    · cases h2
    · cases h2
    · cases h2
    · refine ⟨rfl, Fin.ext ?_⟩
      have h4 : sSem j.val = sSem j'.val := by injection h2
      have h5 := s_idx j.val; rw [h3, h4] at h5; exact h5.symm.trans (s_idx j'.val)
    · exact absurd (by injection h2) (sSem_ne_rSem j.val j'.val)
    · cases h2
    · exact absurd (by injection h2 with h2; exact h2.symm) (sSem_ne_rSem j'.val j.val)
    · refine ⟨rfl, Fin.ext ?_⟩
      have h4 : rSem j.val = rSem j'.val := by injection h2
      have h5 := r_idx j.val; rw [h3, h4] at h5; exact h5.symm.trans (r_idx j'.val)
  rw [key.1, key.2]
/-- The tokens of all duties. -/
def ringToks : Finset (GSem nD τ sig × ℕ × Unit) := Finset.univ.map ⟨tokOf, tokOf_injective⟩

/-- The initial element of the resource algebra. -/
def u₀ : UU :=
  (initOf (Pipeline.cells cfgs cellOf_inj) (Pipeline.launchToks cfgs cellOf_inj), initOf ringCells ringToks)

/-- The tokens of device `c`'s own cells. -/
def ownToks (c : Dev nD) : sProp 𝕄 := iprop(dutyTok ER (barCell c) 0 ()
  ∗ (bigSep (Finset.Ico 0 32) fun j => dutyTok ER (sendCell c j) (j / 3) ()) ∗ bigSep (Finset.Ico 0 32) fun j => dutyTok ER (recvCell c j) (j / 5) ())

/-- What the launch deals device `c`. -/
def G (c : Dev nD) : sProp 𝕄 :=
  iprop((bigSep Finset.univ fun k : Fin 9 => roundState ER (Rd m) (kcell (c, k)) 0)
    ∗ (bigSep Finset.univ fun k : Fin 9 => iprop(atPos ER (kcell (c, k)) 0 ∅ 0 ∗ reached ER (kcell (c, k)) 0)) ∗ ownToks c)

/-- The positions of `c`'s cells and the tokens of the duties it pays. -/
def linear (c : Dev nD) : sProp 𝕄 := iprop((bigSep Finset.univ fun k : Fin 9 => atPos ER (kcell (c, k)) 0 ∅ 0)
  ∗ dutyTok ER (barCell (peer c)) 0 () ∗ bigSep (Finset.Ico 0 32) (toks c))
/-- What the launch's global step makes of it. -/
def G' (c : Dev nD) : sProp 𝕄 := iprop(∃ K, records m K ∗ linear c)

omit [FloatOps F] in
/-- A product over three indices, written out. -/
theorem bigSep_fin3 (Φ : Fin 3 → sProp 𝕄) : bigSep Finset.univ Φ = iprop(Φ 0 ∗ Φ 1 ∗ Φ 2) :=
  bigSep_univ_eq_bigSepL [0, 1, 2] (by decide) (by decide) Φ
omit [FloatOps F] in
/-- A product over eight indices, written out. -/
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
/-- A product over nine indices, written out. -/
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

omit [FloatOps F] in
/-- The tokens of all duties at device `c`'s cells are its own cells' tokens. -/
theorem toks_own (c : Dev nD) :
    (bigSep Finset.univ fun x : Fin 3 × Fin 32 => (dutyTok ER (tokOf (c, x)).1 (tokOf (c, x)).2.1 (tokOf (c, x)).2.2 : sProp 𝕄)) ⊢ ownToks c := by
  have h0 : (bigSep Finset.univ fun j : Fin 32 => (dutyTok ER (barCell c) j.val () : sProp 𝕄)) ⊢ dutyTok ER (barCell c) 0 () :=
    bigSep_elim (Φ := fun j : Fin 32 => (dutyTok ER (barCell c) j.val () : sProp 𝕄)) (Finset.mem_univ 0)
  unfold ownToks
  rw [bigSep_univ_prod, bigSep_fin3, ← fin_ico, ← fin_ico]
  iintro ⟨H0, H1, H2⟩
  isplitl [H0]; · iapply h0; iexact H0
  isplitl [H1]; · iexact H1
  iexact H2

/-- The initial element gives every device its share: positions, marks and tokens. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 9 => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => ownToks c := by
    unfold ringToks; rw [bigSep_map, bigSep_univ_prod]
    exact bigSep_mono fun c _ => toks_own c
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-- The kernel's own counters on device `c`, at zero. -/
abbrev own0 (c : Dev nD) : sProp 𝕄 := Pipeline.ownSems0 (Ix := ℕ) (Name := ℕ) (U := UU) (Lvl := ℕ) (Val := Elt F) (τ := τ) osem c

omit [FloatOps F] in
/-- The kernel's own counters are the eight of its scratch semaphores. -/
theorem own0_eq (c : Dev nD) : (own0 c : sProp 𝕄)
    = iprop(semVal (kcell (c, 1)) 0 ∗ semVal (kcell (c, 2)) 0 ∗ semVal (kcell (c, 3)) 0 ∗ semVal (kcell (c, 4)) 0 ∗ semVal (kcell (c, 5)) 0
      ∗ semVal (kcell (c, 6)) 0 ∗ semVal (kcell (c, 7)) 0 ∗ semVal (kcell (c, 8)) 0) := by
  unfold own0
  rw [Pipeline.ownSems0_eq_of_list c osem [0, 1, 2, 3, 4, 5, 6, 7] (by decide) (by decide)]; rfl
omit [FloatOps F] in
/-- The one counter outside the kernel's scope is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The counters at zero, cell by cell. -/
theorem sems0_eq (c : Dev nD) : iprop(own0 c ∗ unscopedSems0 c) ⊢ (bigSep Finset.univ fun k : Fin 9 => semVal (kcell (c, k)) 0 : sProp 𝕄) := by
  rw [own0_eq, unscopedSems0_eq, bigSep_fin9]
  iintro ⟨H, HB⟩
  isplitl [HB]; · iexact HB
  iexact H

/-- A device's counters at zero become its cells' invariants; its positions, marks and tokens stay. -/
theorem core_alloc (c : Dev nD) :
    iprop(own0 c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ ownToks c) := by
  unfold G
  iintro ⟨Hos, Hus, Hst, Hat, Htok⟩
  ihave Hv := (sems0_eq (F := F) c) $$ [Hos Hus]
  · isplitl [Hos] <;> iassumption
  imod (show iprop((bigSep Finset.univ fun k : Fin 9 => semVal (kcell (c, k)) 0) ∗ bigSep Finset.univ fun k : Fin 9 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- Barrier and receive tokens go to the other device of the pair, which pays them. -/
theorem toks_paid : (bigSep Finset.univ fun c : Dev nD => (ownToks c : sProp 𝕄))
    ⊢ bigSep Finset.univ fun c : Dev nD => iprop(dutyTok ER (barCell (peer c)) 0 () ∗ bigSep (Finset.Ico 0 32) (toks c)) := by
  unfold ownToks toks
  simp only [bigSep_sep']
  rw [bigSep_univ_equiv pairing (fun c : Dev nD => (dutyTok ER (barCell c) 0 () : sProp 𝕄)),
    bigSep_univ_equiv pairing (fun c : Dev nD => (bigSep (Finset.Ico 0 32) fun j => dutyTok ER (recvCell c j) (j / 5) () : sProp 𝕄))]
  iintro ⟨H1, H2, H3⟩
  isplitl [H1]; · iexact H1
  isplitl [H2]; · iexact H2
  iexact H3

/-- What all devices were given, regrouped by the device that uses it. -/
theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ ownToks c) : sProp 𝕄)
      ⊢ bigSep Finset.univ (G' m) := by
  rw [bigSep_sep', bigSep_sep', ← bigSep_univ_prod (fun ck : Dev nD × Fin 9 => iprop(∃ κ : ℕ, cellInv ER (Rd m) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok⟩
  ihave HK := (BI.bigSep_exists_pi Finset.univ (fun (ck : Dev nD × Fin 9) (κ : ℕ) => (cellInv ER (Rd m) κ (kcell ck) : sProp 𝕄))) $$ HI
  icases HK with ⟨%K, #HI⟩
  ihave Htk := (toks_paid (F := F)) $$ Htok
  have hlin : (bigSep Finset.univ fun c : Dev nD => (linear c : sProp 𝕄))
      = iprop((bigSep Finset.univ fun c : Dev nD => bigSep Finset.univ fun k : Fin 9 => atPos ER (kcell (c, k)) 0 ∅ 0)
        ∗ bigSep Finset.univ fun c : Dev nD => iprop(dutyTok ER (barCell (peer c)) 0 () ∗ bigSep (Finset.Ico 0 32) (toks c))) := by
    unfold linear; rw [bigSep_sep']
  have hG (c : Dev nD) : iprop(records m K ∗ linear c) ⊢ G' m c := by
    unfold G'; iintro H; iexists K; iexact H
  iapply (with_each (R := records m K) fun c _ => hG c)
  isplitr
  · unfold records; isplitl; · iexact HI
    iexact HR
  · iapply (Entails.of_eq (hlin).symm)
    isplitl [Hat]; · iexact Hat
    iexact Htk

/-- The launch's global step: every device's semaphores become the cells' invariants. -/
theorem glob : (bigSep Finset.univ fun c => iprop(own0 c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-- What each device owes at launch. -/
def O₀ (c : Dev nD) : CellTallies nD τ sig ℕ := owedAt c 0

omit [FloatOps F] in
/-- The credit of what the other device owes. -/
theorem creds (c : Dev nD) : (Pipeline.launchCred O₀ c : sProp 𝕄) ⊢ iprop(cred (tallyAt (barCell c) 0 1) ∗ bigSep (Finset.Ico 0 32) (rCred c)) := by
  rw [show O₀ = fun d => (∑ j ∈ Finset.Ico 0 32, tallyAt (recvCell (peer d) j) j N) + tallyAt (barCell (peer d)) 0 1 from rfl,
    Pipeline.launchCred_add, Pipeline.launchCred_sum (Finset.Ico 0 32) (fun j d => tallyAt (recvCell (peer d) j) j N)]
  have hr : (bigSep (Finset.Ico 0 32) fun j => (Pipeline.launchCred (fun d => tallyAt (recvCell (peer d) j) j N) c : sProp 𝕄)) ⊢ bigSep (Finset.Ico 0 32) (rCred c) :=
    bigSep_mono fun j _ => Pipeline.launchCred_tallyAt (.dma (rSem j)) peer peer peer_peer peer_peer j N c
  have hb : (Pipeline.launchCred (fun d => tallyAt (barCell (peer d)) 0 1) c : sProp 𝕄) ⊢ cred (tallyAt (barCell c) 0 1) :=
    Pipeline.launchCred_tallyAt (.reg barS) peer peer peer_peer peer_peer 0 1 c
  iintro ⟨H1, H2⟩
  isplitl [H2]
  · iapply hb; iexact H2
  · iapply hr; iexact H1

/-- After the last point nothing is owed. -/
theorem owed_last (c : Dev nD) : owedAt c cfg0.N = 0 := by
  rw [show cfg0.N = 34 from N_0]
  exact (if_neg (by decide)).trans (owedR_done c (by decide))

/-! ### The side conditions -/

/-- What a device holds before its loop, its buffers apart. -/
def held (c : Dev nD) : sProp 𝕄 := iprop(∃ K, records m K ∗ levAts L lv ∗ start c)

omit [FloatOps F] in
/-- The nine positions at round 0 are the barrier's, the send cells' and the receive cells'. -/
theorem pos_intro (c : Dev nD) : (bigSep Finset.univ fun k : Fin 9 => (atPos ER (kcell (c, k)) 0 ∅ 0 : sProp 𝕄))
    ⊢ iprop(atPos ER (barCell c) 0 ∅ 0 ∗ bigSep (Finset.Ico 0 3) (sPos c) ∗ bigSep (Finset.Ico 0 5) (rPos c)) := by
  rw [bigSep_fin9, three 0, five 0]
  unfold sPos rPos
  iintro ⟨H0, H1, H2, H3, H4, H5, H6, H7, H8⟩
  isplitl [H0]; · iexact H0
  isplitl [H1 H2 H3]
  · isplitl [H1]; · iexact H1
    isplitl [H2]; · iexact H2
    isplitl [H3]; · iexact H3
    iempintro
  isplitl [H4]; · iexact H4
  isplitl [H5]; · iexact H5
  isplitl [H6]; · iexact H6
  isplitl [H7]; · iexact H7
  isplitl [H8]; · iexact H8
  iempintro

/-- What the launch leaves device `c` with is what it holds on entering the loop. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(held m c ∗ emp) := by
  unfold G' linear
  iintro ⟨-, Hlev, Hcr, -, ⟨%K, HR, Hat, Hbt, Htk⟩⟩
  ihave Hc := (creds (F := F) c) $$ Hcr
  ihave Hp := (pos_intro (F := F) c) $$ Hat
  icases Hc with ⟨H1, H2⟩
  icases Hp with ⟨P1, P2, P3⟩
  imodintro
  unfold held start
  isplitl
  · iexists K
    isplitl [HR]; · iexact HR
    isplitl [Hlev]; · iexact Hlev
    isplitl [H1]; · iexact H1
    isplitl [P1]; · iexact P1
    isplitl [Hbt]; · iexact Hbt
    isplitl [P2]; · iexact P2
    isplitl [P3]; · iexact P3
    isplitl [Htk] <;> iassumption
  · iempintro

/-- What the launch gives a device is what it holds before point 0. -/
theorem phi_intro (c : Dev nD) :
    iprop(held m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Inv m c 0 from rfl, inv_first, scopedRest0_eq]
  unfold held first
  iintro ⟨⟨%K, #HR, Hlev, Hst⟩, -, Hs, Hr⟩
  ihave Hs := (sWhole_split (F := F) c) $$ [Hs]
  · unfold sWhole; iexact Hs
  ihave Hr := (rWhole_split (F := F) c) $$ [Hr]
  · unfold rWhole; iexact Hr
  icases Hs with ⟨Hs, Hs'⟩
  icases Hr with ⟨Hr, Hr'⟩
  isplitl [Hs' Hr']
  · isplitl [Hs'] <;> iassumption
  iexists K
  isplitr; · iexact HR
  isplitl [Hlev]; · iexact Hlev
  isplitl [Hst]; · iexact Hst
  iapply (slots_intro m c K)
  isplitr; · iexact HR
  isplitl [Hs] <;> iassumption

omit [FloatOps F] in
/-- The closed cells are the kernel's own semaphores. -/
theorem sems_back (c : Dev nD) : iprop((bigSep (Finset.Ico 32 35) fun j => semVal (sendCell c j) 0) ∗ bigSep (Finset.Ico 32 37) fun j => semVal (recvCell c j) 0)
    ⊢ (own0 c : sProp 𝕄) := by
  rw [own0_eq, three 32, five 32]
  iintro ⟨⟨H3, H1, H2, -⟩, H6, H7, H8, H4, H5, -⟩
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- What a device holds after the last point gives back its buffers and its counters at zero. -/
theorem phi_exit (c : Dev nD) :
    (dats m 0 c).Φ (Fin.last cfg0.N) ⊢ iprop(unscopedSems0 c ∗ own0 c ∗ Pipeline.scopedRest cfg0.spec c) := by
  rw [show (dats m 0 c).Φ (Fin.last cfg0.N) = Inv m c cfg0.N from rfl, inv_done m c (le_of_eq (show cfg0.N = 34 from N_0).symm), scopedRest0_eq, unscopedSems0_eq]
  unfold done
  iintro ⟨⟨Hs', Hr'⟩, Hb, H1, H2, H3, H4⟩
  ihave H3 := (sFree_all (F := F) c) $$ H3
  ihave H4 := (rFree_all (F := F) c) $$ H4
  ihave Hs := (sWhole_join m c) $$ [H3 Hs']
  · isplitl [H3] <;> iassumption
  ihave Hr := (rWhole_join m c) $$ [H4 Hr']
  · isplitl [H4] <;> iassumption
  unfold sWhole rWhole
  isplitl [Hb]; · iexact Hb
  isplitl [H1 H2]
  · iapply (sems_back (F := F) c); isplitl [H1] <;> iassumption
  isplitl [Hs]; · iexact Hs
  iexact Hr

/-- The pipeline's own waits are below everything that is owed. -/
theorem loop_waits (c : Dev nD) : (levAts L lv : sProp 𝕄) ⊢ Pipeline.cellsWaits cfgs (dats m) 0 0 c :=
  Pipeline.cellsWaits_intro cfgs (dats m) 0 0 c fun w s t =>
    mayWait_stage c _ (by fin_cases w <;> fin_cases s <;> decide) t.val

/-! ### The run -/

/-- What array `w` ends holding. -/
def finalA (c : Dev nD) (w : Fin cfg0.W) : Buf (Elt F) ((cfg0.win w).arr.view.loc (c : Thread nD τ)) := (dats m 0 c).arrAt w cfg0.N

/-- Every weakly fair execution ends, with the windows' arrays at `finalA` and every semaphore counter zero. -/
theorem run_main : θ_run defs (onTc (τ := τ) (main (F := F))) (s₀ m ρ)
    (fun r => (∀ (c : Dev nD) (w : Fin cfg0.W), r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := owed_last)
    (L := L) (lv := lv) (hL := L_of_ne) (hwaits := loop_waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := held m) (Y := fun c => unscopedSems0 c) (Z := fun _ => iprop(emp))
    (hX := start_intro m ρ) (hin := phi_intro m) (hout := phi_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays end as they were. -/
theorem finalA_arg0 (c : Dev nD) : finalA m c (0 : Fin 3) = m ((c : Thread nD τ).loc main_arg0) := (dats m 0 c).arrAt_in (0 : Fin 3) rfl _
/-- The right operand ends as it was launched. -/
theorem finalA_arg1 (c : Dev nD) : finalA m c (1 : Fin 3) = m ((c : Thread nD τ).loc main_arg1) := (dats m 0 c).arrAt_in (1 : Fin 3) rfl _

end Cert.Pair

end
-- ==== Proof.Value.lean ====
/-
# The value of the result

Over the extended reals the result of device `c` is its block of rows of the whole product. Each device of a pair
holds half of the contracted axis; a chunk of the result is the sum of the two halves' products.
-/
module

public import proofs.«01_k».proof.Proof.Run
public import proofs.«01_k».proof.Proof.Gen.ReferenceIdeal.Run
public import Idealize.ShloMosaic.Lib.MatmulPlain
public import Idealize.ShloMosaic.Lib.StackMember
public import Idealize.ShloMosaic.Lib.Pipeline.ValueKit.Geometry

@[expose] public section

set_option maxRecDepth 16384
set_option maxHeartbeats 2000000
set_option backward.proofsInPublic true

noncomputable section

namespace Cert.Pair

open Cert.KernelIdeal Cert.KernelIdeal.Gen
open Idealize.ShloMosaic Idealize.ShloMosaic.TcCoe Idealize.ShloMosaic.ValueIdx Idealize.SL.Sem
open scoped BigOperators

variable (m : (ℓ : Loc nD τ sig) → Buf (Elt Ideal) ℓ)

/-! ## Where the blocks lie -/

/-- At point `t` the left operand's block is row block `min t 31`. -/
theorem index_a : ∀ t : Fin cfg0.N, win0_0.index t = ![min t.val 31, 0] :=
  (by decide +kernel : ∀ t : Fin grid0.N, win0_0.index t = ![min t.val 31, 0])

/-- The right operand's block is always the whole of it. -/
theorem index_b : ∀ t : Fin cfg0.N, win0_1.index t = ![0, 0] :=
  (by decide +kernel : ∀ t : Fin grid0.N, win0_1.index t = ![0, 0])

/-- At point `t` the result's block is row block `t - 2`. -/
theorem index_o : ∀ t : Fin cfg0.N, win0_2.index t = ![t.val - 2, 0] :=
  (by decide +kernel : ∀ t : Fin grid0.N, win0_2.index t = ![t.val - 2, 0])

/-! ## One chunk -/

/-- Device `c`'s half of entry `(p, q)` of its result: row `p` of its left block times column `q` of its right block. -/
def half (c : Dev nD) (p q : Fin 4096) : EReal :=
  ∑ k : Fin 2048, (show S4096x2048.Idx → EReal from m (c.tc.loc main_arg0)) (ix2 p k)
    * (show S2048x4096.Idx → EReal from m (c.tc.loc main_arg1)) (ix2 k q)

/-- Row `r` of chunk `j`, as a row of the block. -/
def rowOf (j : Fin 32) (r : Fin 128) : Fin 4096 := ⟨j.val * 128 + r.val, by omega⟩

/-- The left operand's block of chunk `j`, at row `r`. -/
theorem left_at (c : Dev nD) (j : Fin 32) (r : Fin 128) (k : Fin 2048) :
    iblk m c 0 (pt j.val) (ix2 r k) = (show S4096x2048.Idx → EReal from m (c.tc.loc main_arg0)) (ix2 (rowOf j r) k) := by
  have hp : (pt j.val).val = j.val := Nat.mod_eq_of_lt (by omega)
  have h := index_a (pt j.val)
  rw [hp, Nat.min_eq_left (by omega)] at h
  blk_simp [iblk]
  exact congrArg (m (c.tc.loc main_arg0)) (by blk_ext [h, rowOf])

/-- The right operand's block of chunk `j` is the operand. -/
theorem right_at (c : Dev nD) (j : Fin 32) (k : Fin 2048) (q : Fin 4096) :
    iblk m c 1 (pt j.val) (ix2 k q) = (show S2048x4096.Idx → EReal from m (c.tc.loc main_arg1)) (ix2 k q) := by
  have h := index_b (pt j.val)
  blk_simp [iblk]
  exact congrArg (m (c.tc.loc main_arg1)) (by blk_ext [h])

/-- The product of two blocks, as the kernel forms it, at an entry: no rounding is left in it. -/
theorem product_at (a : FVec Ideal S128x2048 .bf16) (b : FVec Ideal S2048x4096 .bf16) (r : Fin 128) (q : Fin 4096) :
    shapeCast S128x4096 (k0_pay2 (F := Ideal) a b) shapeCasts_S1x128x4096_S128x4096 (ix2 r q)
      = ∑ k : Fin 2048, a (ix2 r k) * b (ix2 k q) := by
  unfold k0_pay2
  simp only [shapeCast_self, shapeCast_shapeCast]
  refine (congrFun (matmul_zero_eq_dotGeneral (DotDims.plain 128 2048 4096) none a b) (ix2 r q)).trans ?_
  exact StackMember.dotGeneral_plain_apply none a b r q

/-- Chunk `j` of device `c`'s half of the result. -/
theorem part_at (c : Dev nD) (j : Fin 32) (r : Fin 128) (q : Fin 4096) :
    part m c j.val (ix2 r q) = half m c (rowOf j r) q := by
  refine (product_at _ _ r q).trans (Finset.sum_congr rfl fun k _ => ?_)
  exact congrArg₂ (fun x y : EReal => x * y) (left_at m c j r k) (right_at m c j k q)

/-! ## The whole result -/

/-- Device `c`'s result: its own half of every entry plus the peer's. -/
def whole (c : Dev nD) : S4096x4096.Idx → EReal := fun i => half m c (i 0) (i 1) + half m (peer c) (i 0) (i 1)

/-- The result array ends holding, at every entry, the sum of the two halves. -/
theorem result_eq (c : Dev nD) : finalA m c 2 = whole m c := by
  refine (dats m 0 c).arrAt_eq_of_covers 2 _ (by decide +kernel) fun t hf y => ?_
  have h2 : 2 ≤ t.val := by
    by_contra hlt
    rw [no_flush t (by omega)] at hf
    exact absurd hf (by decide)
  have h34 : t.val < 34 := t.isLt.trans_eq (show cfg0.N = 34 from N_0)
  have h := index_o t
  blk_simp
  obtain ⟨r, q, rfl⟩ : ∃ (r : Fin 128) (q : Fin 4096), y = ix2 r q := ⟨y 0, y 1, eq_ix2 (n0 := 128) (n1 := 4096) y⟩
  have hi : (win0_2.blk t).view.emb (ix2 r q) = ix2 (rowOf ⟨t.val - 2, by omega⟩ r) q := by blk_ext [h, rowOf]
  refine Eq.trans ?_ (congrArg (whole m c) hi).symm
  exact congrArg₂ (fun x y : EReal => x + y) (part_at m c ⟨t.val - 2, by omega⟩ r q) (part_at m (peer c) ⟨t.val - 2, by omega⟩ r q)

/-! ## Against the whole product -/

/-- A sum over the 4096 contracted positions is the sum over the first 2048 plus the sum over the last 2048. -/
theorem sum_two (f : Fin 4096 → EReal) :
    ∑ k : Fin 4096, f k = ∑ k : Fin 2048, f ⟨k.val, by omega⟩ + ∑ k : Fin 2048, f ⟨2048 + k.val, by omega⟩ :=
  Fin.sum_univ_add (a := 2048) (b := 2048) f

/-- Row `p` of device `c`'s block of rows, as a row of the whole. -/
def rowAt (c : Dev nD) (p : Fin 4096) : Fin 8192 :=
  ⟨c.val / 2 * 4096 + p.val, by have : c.val < 4 := c.isLt; omega⟩

/-- Position `k` of device `c`'s half of the contracted axis, as a position of the whole axis. -/
def colAt (c : Dev nD) (k : Fin 2048) : Fin 4096 := ⟨c.val % 2 * 2048 + k.val, by omega⟩

/-- The sum over the device's half of the contracted axis and over its peer's is the sum over the axis. -/
theorem sum_pair (c : Dev nD) (f : Fin 4096 → EReal) :
    ∑ k : Fin 2048, f (colAt c k) + ∑ k : Fin 2048, f (colAt (peer c) k) = ∑ k : Fin 4096, f k := by
  rw [sum_two f]
  have hp : (peer c).val = 2 * (c.val / 2) + 1 - c.val % 2 := rfl
  rcases Nat.mod_two_eq_zero_or_one c.val with h | h
  · refine congrArg₂ (fun x y : EReal => x + y) ?_ ?_ <;>
      refine Finset.sum_congr rfl fun k _ => congrArg f (Fin.ext ?_) <;> simp only [colAt, hp] <;> omega
  · rw [add_comm]
    refine congrArg₂ (fun x y : EReal => x + y) ?_ ?_ <;>
      refine Finset.sum_congr rfl fun k _ => congrArg f (Fin.ext ?_) <;> simp only [colAt, hp] <;> omega

/-- A dimension cut along the first mesh axis: device `c` holds block `c / 2`. -/
theorem lin_x (c : Dev nD) : Layout.meshLin [2, 2] c.val [0] = c.val / 2 := by revert c; decide
/-- A dimension cut along the second mesh axis: device `c` holds block `c % 2`. -/
theorem lin_y (c : Dev nD) : Layout.meshLin [2, 2] c.val [1] = c.val % 2 := by revert c; decide

section Whole
open Cert.ReferenceIdeal (S8192x4096)
variable (A : S8192x4096.Idx → EReal) (B : S4096x4096.Idx → EReal)

/-- The whole product at an entry. -/
def prod : S8192x4096.Idx → EReal := fun i => ∑ k : Fin 4096, A (ix2 (i 0) k) * B (ix2 k (i 1))

/-- The reference's result is the whole product. -/
theorem reference_eq :
    truncf (F := Ideal) (φ := .f32) .bf16 (Host.dotGeneral (F := Ideal) (φ₁ := .bf16) (φ₂ := .bf16) Cert.ReferenceIdeal.dot_S8192x4096_S4096x4096_S8192x4096_1_0_0_1_n_n none
      A B) Cert.ReferenceIdeal.Facts₀.bitsLt_bf16_f32 = prod A B := by
  funext i
  obtain ⟨p, q, rfl⟩ : ∃ (p : Fin 8192) (q : Fin 4096), i = ix2 p q := ⟨i 0, i 1, eq_ix2 (n0 := 8192) (n1 := 4096) i⟩
  exact StackMember.dotGeneral_plain_apply (φ₁ := .bf16) (φ₂ := .bf16) none A B p q

variable (hA : ∀ c : Dev nD, m (c.tc.loc main_arg0)
    = Layout.blockN ⟨2, ![4096, 2048]⟩ ⟨2, ![8192, 4096]⟩ (Layout.meshBlock [2, 2] ![[0], [1]] c) A)
  (hB : ∀ c : Dev nD, m (c.tc.loc main_arg1)
    = Layout.blockN ⟨2, ![2048, 4096]⟩ ⟨2, ![4096, 4096]⟩ (Layout.meshBlock [2, 2] ![[1], []] c) B)

include hA hB in
/-- A device's half of an entry is the whole product's sum, over the device's half of the contracted axis. -/
theorem half_eq (c : Dev nD) (p q : Fin 4096) :
    half m c p q = ∑ k : Fin 2048, A (ix2 (rowAt c p) (colAt c k)) * B (ix2 (colAt c k) q) := by
  refine Finset.sum_congr rfl fun k _ => ?_
  refine congrArg₂ (fun x y : EReal => x * y) ((congrFun (hA c) (ix2 p k)).trans (congrArg A ?_))
    ((congrFun (hB c) (ix2 k q)).trans (congrArg B ?_))
  · funext a; apply Fin.ext
    match a with
    | ⟨0, _⟩ => exact congrArg (· * 4096 + p.val) (lin_x c)
    | ⟨1, _⟩ => exact congrArg (· * 2048 + k.val) (lin_y c)
  · funext a; apply Fin.ext
    match a with
    | ⟨0, _⟩ => exact congrArg (· * 2048 + k.val) (lin_y c)
    | ⟨1, _⟩ => exact (congrArg (· + q.val) (Nat.zero_mul 4096)).trans (Nat.zero_add _)

include hA hB in
/-- The result of device `c` is its block of rows of the whole product. -/
theorem whole_eq (c : Dev nD) : whole m c
    = Layout.blockN ⟨2, ![4096, 4096]⟩ ⟨2, ![8192, 4096]⟩ (Layout.meshBlock [2, 2] ![[0], []] c) (prod A B) := by
  funext i
  obtain ⟨p, q, rfl⟩ : ∃ p q : Fin 4096, i = ix2 p q := ⟨i 0, i 1, eq_ix2 (n0 := 4096) (n1 := 4096) i⟩
  have hrow : rowAt (peer c) p = rowAt c p := Fin.ext (by
    have hp : (peer c).val = 2 * (c.val / 2) + 1 - c.val % 2 := rfl
    simp only [rowAt, hp]; omega)
  have hsum : whole m c (ix2 p q) = prod A B (ix2 (rowAt c p) q) := by
    show half m c p q + half m (peer c) p q = _
    rw [half_eq m A B hA hB, half_eq m A B hA hB, hrow]
    exact sum_pair c fun k => A (ix2 (rowAt c p) k) * B (ix2 k q)
  refine hsum.trans (congrArg (prod A B) ?_)
  funext a; apply Fin.ext
  match a with
  | ⟨0, _⟩ => exact (congrArg (· * 4096 + p.val) (lin_x c)).symm
  | ⟨1, _⟩ => exact ((congrArg (· + q.val) (Nat.zero_mul 4096)).trans (Nat.zero_add _)).symm

end Whole

end Cert.Pair

end
-- ==== Proof.lean ====
/-
# The five claims

The kernel's run, the ideal kernel's run, the reference's run, and that kernel and reference compute the same product
over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem
open Cert.Pair (run_main finalA finalA_arg0 finalA_arg1)

/-- The two programs have the same kernel body. -/
theorem body_table : Cert.Kernel.defs₀ (F := Bits) = Cert.KernelIdeal.defs₀ := by
  unfold Cert.Kernel.defs₀ Cert.KernelIdeal.defs₀
  congr 1
  funext i a
  match i, a with
  | 0, (t, s) => rfl
  | ⟨_ + 1, h⟩, _ => exact absurd h (Nat.not_lt.2 (Nat.le_add_left _ _))

/-- So they have the same table of bodies and pipelines. -/
theorem table : Cert.Kernel.defs (F := Bits) = Cert.KernelIdeal.defs :=
  congrArg (Pipeline.defs (Cert.KernelIdeal.pcfgs (F := Bits))) body_table

/-- Kernel: every execution terminates without fault, with the arguments unchanged and every counter at zero. The
    program's text is the ideal kernel's, whose run holds over any float values. -/
theorem frame_kernel : Cert.quiescent_Kernel := fun m ρ _ => by
  rw [table]
  exact (θ_run Cert.KernelIdeal.defs _ _).mono
    (fun _ h => ⟨fun c => ⟨(h.1 c 0).trans (finalA_arg0 m c), (h.1 c 1).trans (finalA_arg1 m c)⟩, h.2⟩)
    (run_main (F := Bits) m ρ)

/-- KernelIdeal: the same over the extended reals. -/
theorem frame_ideal : Cert.quiescent_KernelIdeal := fun m ρ _ =>
  (θ_run Cert.KernelIdeal.defs _ _).mono
    (fun _ h => ⟨fun c => ⟨(h.1 c 0).trans (finalA_arg0 m c), (h.1 c 1).trans (finalA_arg1 m c)⟩, h.2⟩)
    (run_main (F := Ideal) m ρ)

/-- ReferenceIdeal: the host program terminates with its arguments unchanged; it declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Over the extended reals, device `c`'s result is its block of rows of the reference's result. -/
theorem value : Cert.algebraic_KernelIdeal_ReferenceIdeal := by
  intro m ρ m' ρ' _ hagree
  refine ⟨Cert.Pair.prod (m' ((0 : Dev Cert.ReferenceIdeal.nD).tc.loc Cert.ReferenceIdeal.main_arg0))
    (m' ((0 : Dev Cert.ReferenceIdeal.nD).tc.loc Cert.ReferenceIdeal.main_arg1)), ?_, ?_⟩
  · refine (θ_run Cert.KernelIdeal.defs _ _).mono (fun _ h c => ⟨?_, (h.1 c 0).trans (finalA_arg0 m c), (h.1 c 1).trans (finalA_arg1 m c)⟩)
      (run_main (F := Ideal) m ρ)
    exact (h.1 c 2).trans ((Cert.Pair.result_eq m c).trans
      (Cert.Pair.whole_eq m _ _ (fun d => (hagree d).1) (fun d => (hagree d).2) c))
  · exact (θ_run Cert.ReferenceIdeal.defs _ _).mono
      (fun _ h => ⟨(h 0).1.trans (Cert.Pair.reference_eq _ _), (h 0).2⟩)
      (Cert.ReferenceIdeal.Value.run (F := Ideal) m' ρ')

/-- The five claims. -/
theorem claim : Cert.Claim :=
  ⟨Cert.Kernel.Gen.facts, Cert.KernelIdeal.Gen.facts, Cert.ReferenceIdeal.Gen.facts,
    frame_kernel, frame_ideal, frame_reference, trivial, value⟩

end Cert.Proof

end
